-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_phase_type [hPre_phase_type : Cert.Pre_phase_type.Facts] (m : (ℓ : Loc Cert.KernelIdeal.nD Cert.KernelIdeal.τ Cert.KernelIdeal.sig) → Buf (Elt Ideal) ℓ) : Prop :=
  ∀ c : Dev Cert.KernelIdeal.nD,
    (Cert.Pre_phase_type.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_phase_type [hPre_phase_type : Cert.Pre_phase_type.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_phase_type.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_phase_type [hKernelIdeal : Cert.KernelIdeal.Facts] [hPre_phase_type : Cert.Pre_phase_type.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_phase_type m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_phase_type [hReferenceIdeal : Cert.ReferenceIdeal.Facts] [hPre_phase_type : Cert.Pre_phase_type.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_phase_type m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_fact_3" .f32 0x3E2AAAAB#32 ((1 / 6 : ℝ) : EReal)
  ∧ IdealRules.named_const.Statement Cert.KernelIdeal.κ "inv_pair_4" .f32 0x3DAAAAAB#32 ((1 / 12 : ℝ) : EReal)
  ∧ IdealRules.named_const.Statement Cert.KernelIdeal.κ "inv_pair_5" .f32 0x3D4CCCCD#32 ((1 / 20 : ℝ) : EReal)
  ∧ IdealRules.named_const.Statement Cert.KernelIdeal.κ "inv_pair_6" .f32 0x3D088889#32 ((1 / 30 : ℝ) : EReal)
  ∧ IdealRules.named_const.Statement Cert.KernelIdeal.κ "inv_pair_7" .f32 0x3CC30C31#32 ((1 / 42 : ℝ) : EReal)
  ∧ IdealRules.named_const.Statement Cert.KernelIdeal.κ "inv_pair_8" .f32 0x3C924925#32 ((1 / 56 : ℝ) : EReal)
  ∧ IdealRules.named_const.Statement Cert.KernelIdeal.κ "inv_pair_9" .f32 0x3C638E39#32 ((1 / 72 : ℝ) : EReal)
  ∧ IdealRules.named_const.Statement Cert.KernelIdeal.κ "inv_pair_10" .f32 0x3C360B61#32 ((1 / 90 : ℝ) : EReal)
  ∧ IdealRules.named_const.Statement Cert.KernelIdeal.κ "inv_pair_11" .f32 0x3C14F209#32 ((1 / 110 : ℝ) : EReal)
  ∧ IdealRules.named_const.Statement Cert.KernelIdeal.κ "inv_pair_12" .f32 0x3BF83E10#32 ((1 / 132 : ℝ) : EReal)
  ∧ IdealRules.named_const.Statement Cert.KernelIdeal.κ "inv_pair_13" .f32 0x3BD20D21#32 ((1 / 156 : ℝ) : EReal)
  ∧ IdealRules.named_const.Statement Cert.KernelIdeal.κ "inv_pair_14" .f32 0x3BB40B41#32 ((1 / 182 : ℝ) : EReal)
  ∧ IdealRules.named_const.Statement Cert.KernelIdeal.κ "inv_pair_15" .f32 0x3B9C09C1#32 ((1 / 210 : ℝ) : EReal)
  ∧ IdealRules.named_const.Statement Cert.KernelIdeal.κ "inv_pair_16" .f32 0x3B888889#32 ((1 / 240 : ℝ) : EReal)
  ∧ IdealRules.named_const.Statement Cert.KernelIdeal.κ "inv_pair_17" .f32 0x3B70F0F1#32 ((1 / 272 : ℝ) : EReal)
  ∧ IdealRules.named_const.Statement Cert.KernelIdeal.κ "inv_pair_18" .f32 0x3B562B81#32 ((1 / 306 : ℝ) : EReal)
  ∧ IdealRules.named_const.Statement Cert.KernelIdeal.κ "inv_pair_19" .f32 0x3B3FA030#32 ((1 / 342 : ℝ) : EReal)
  ∧ IdealRules.named_const.Statement Cert.KernelIdeal.κ "inv_pair_20" .f32 0x3B2C7692#32 ((1 / 380 : ℝ) : EReal)
  ∧ IdealRules.named_const.Statement Cert.KernelIdeal.κ "inv_fact_4" .f32 0x3D2AAAAB#32 ((1 / 24 : ℝ) : EReal)
  ∧ IdealRules.named_const.Statement Cert.KernelIdeal.κ "inv_fact_5" .f32 0x3C088889#32 ((1 / 120 : ℝ) : EReal)
  ∧ IdealRules.named_const.Statement Cert.KernelIdeal.κ "inv_fact_6" .f32 0x3AB60B61#32 ((1 / 720 : ℝ) : EReal)
  ∧ IdealRules.named_const.Statement Cert.KernelIdeal.κ "inv_fact_7" .f32 0x39500D01#32 ((1 / 5040 : ℝ) : EReal)
  ∧ IdealRules.named_const.Statement Cert.KernelIdeal.κ "inv_fact_8" .f32 0x37D00D01#32 ((1 / 40320 : ℝ) : EReal)
  ∧ IdealRules.named_const.Statement Cert.KernelIdeal.κ "inv_fact_9" .f32 0x3638EF1D#32 ((1 / 362880 : ℝ) : EReal)
  ∧ IdealRules.named_const.Statement Cert.KernelIdeal.κ "inv_fact_10" .f32 0x3493F27E#32 ((1 / 3628800 : ℝ) : EReal)
  ∧ IdealRules.named_const.Statement Cert.KernelIdeal.κ "inv_fact_11" .f32 0x32D7322B#32 ((1 / 39916800 : ℝ) : EReal)
  ∧ IdealRules.named_const.Statement Cert.KernelIdeal.κ "inv_fact_12" .f32 0x310F76C7#32 ((1 / 479001600 : ℝ) : EReal)
  ∧ IdealRules.named_const.Statement Cert.KernelIdeal.κ "inv_fact_13" .f32 0x2F309231#32 ((1 / 6227020800 : ℝ) : EReal)
  ∧ IdealRules.named_const.Statement Cert.KernelIdeal.κ "inv_fact_14" .f32 0x2D49CBA5#32 ((1 / 87178291200 : ℝ) : EReal)
  ∧ IdealRules.named_const.Statement Cert.KernelIdeal.κ "inv_fact_15" .f32 0x2B573F9F#32 ((1 / 1307674368000 : ℝ) : EReal)
  ∧ IdealRules.named_const.Statement Cert.KernelIdeal.κ "inv_fact_16" .f32 0x29573F9F#32 ((1 / 20922789888000 : ℝ) : EReal)
  ∧ IdealRules.named_const.Statement Cert.KernelIdeal.κ "inv_fact_17" .f32 0x274A963C#32 ((1 / 355687428096000 : ℝ) : EReal)

def algebraic_KernelIdeal_ReferenceIdeal_pre_phase_type [hKernelIdeal : Cert.KernelIdeal.Facts] [hReferenceIdeal : Cert.ReferenceIdeal.Facts] [hPre_phase_type : Cert.Pre_phase_type.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_phase_type m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_phase_type : Cert.Pre_phase_type.Facts),
    quiescent_Kernel (hKernel := hKernel)
    ∧ quiescent_KernelIdeal (hKernelIdeal := hKernelIdeal)
    ∧ quiescent_KernelIdeal_pre_phase_type (hKernelIdeal := hKernelIdeal) (hPre_phase_type := hPre_phase_type)
    ∧ quiescent_ReferenceIdeal (hReferenceIdeal := hReferenceIdeal)
    ∧ quiescent_ReferenceIdeal_pre_phase_type (hReferenceIdeal := hReferenceIdeal) (hPre_phase_type := hPre_phase_type)
    ∧ preserves_Kernel_KernelIdeal
    ∧ algebraic_KernelIdeal_ReferenceIdeal_pre_phase_type (hKernelIdeal := hKernelIdeal) (hReferenceIdeal := hReferenceIdeal) (hPre_phase_type := hPre_phase_type)
-- ==== Pre_phase_type.lean ====
abbrev S500000 : Shape := ⟨1, ![500000]⟩
abbrev S8x8 : Shape := ⟨2, ![8, 8]⟩
abbrev S8 : Shape := ⟨1, ![8]⟩
abbrev S_ : Shape := ⟨0, ![]⟩

class Facts : Prop where
  bcast_S_S8x8 : S_.BroadcastsInDim S8x8 (![] : Fin 0 → Fin S8x8.rank)
  bcast_S_S500000 : S_.BroadcastsInDim S500000 (![] : Fin 0 → Fin S500000.rank)
  reducesTo_S500000_S_d0 : S500000.ReducesTo [0] S_
  h_S_ : 0 < S_.numel
  reducesTo_S8x8_S_d0_1 : S8x8.ReducesTo [0, 1] S_
  reducesTo_S8x8_S8_d1 : S8x8.ReducesTo [1] S8
  bcast_S_S8 : S_.BroadcastsInDim S8 (![] : Fin 0 → Fin S8.rank)
  reducesTo_S8_S_d0 : S8.ReducesTo [0] S_

variable [Facts]

def fn_part2 {F : FTy → Type} [FloatOps F] (main_arg2 : FVec F S8 .f32) (main_v31 : IVec S_ 1) (main_v33 : IVec S8 1) : IVec S_ 1 :=
  let main_cst_12 : FVec F S_ .f32 := constant S_ .f32 0x7F800000#32
  let main_v34 : FVec F S8 .f32 := broadcastInDim S8 ![] bcast_S_S8 main_cst_12
  let main_v35 : IVec S8 1 := cmpf .olt main_arg2 main_v34
  let main_v36 : IVec S8 1 := andi main_v33 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v31 main_v37
  let main_cst_14 : FVec F S_ .f32 := constant S_ .f32 0x00000000#32
  let main_v39 : FVec F S_ .f32 := (fun x v => Host.reduceAdd x v reducesTo_S8_S_d0 h_S_) main_arg2 main_cst_14
  let main_cst_15 : FVec F S_ .f32 := constant S_ .f32 0x00000000#32
  let main_v40 : IVec S_ 1 := cmpf .ogt main_v39 main_cst_15
  let main_v41 : IVec S_ 1 := andi main_v38 main_v40
  main_v41

def fn_part1 {F : FTy → Type} [FloatOps F] (main_arg1 : FVec F S8x8 .f32) (main_arg2 : FVec F S8 .f32) (main_v5 : FVec F S8x8 .f32) (main_v11 : IVec S_ 1) (main_v16 : IVec S8x8 1) (main_c_4 : IVec S_ 1) : IVec S_ 1 :=
  let main_v17 : IVec S_ 1 := (fun x v => Host.reduce IntOp.andi x v reducesTo_S8x8_S_d0_1 h_S_) main_v16 main_c_4
  let main_v18 : IVec S_ 1 := andi main_v11 main_v17
  let main_cst_5 : FVec F S_ .f32 := constant S_ .f32 0x00000000#32
  let main_v19 : FVec F S8 .f32 := (fun x v => Host.reduceAdd x v reducesTo_S8x8_S8_d1 h_S_) main_arg1 main_cst_5
  let main_v20 : FVec F S8 .f32 := Host.negf main_v19
  let main_cst_6 : FVec F S_ .f32 := constant S_ .f32 0x3E800000#32
  let main_v21 : FVec F S8 .f32 := broadcastInDim S8 ![] bcast_S_S8 main_cst_6
  let main_v22 : IVec S8 1 := cmpf .oge main_v20 main_v21
  let main_c_7 : IVec S_ 1 := constantI S_ 1 1#1
  let main_v23 : IVec S_ 1 := (fun x v => Host.reduce IntOp.andi x v reducesTo_S8_S_d0 h_S_) main_v22 main_c_7
  let main_v24 : IVec S_ 1 := andi main_v18 main_v23
  let main_v25 : FVec F S8x8 .f32 := mulf main_arg1 main_v5
  let main_cst_8 : FVec F S_ .f32 := constant S_ .f32 0x00000000#32
  let main_v26 : FVec F S8 .f32 := (fun x v => Host.reduceAdd x v reducesTo_S8x8_S8_d1 h_S_) main_v25 main_cst_8
  let main_v27 : FVec F S8 .f32 := Host.negf main_v26
  let main_cst_9 : FVec F S_ .f32 := constant S_ .f32 0x40400000#32
  let main_v28 : FVec F S8 .f32 := broadcastInDim S8 ![] bcast_S_S8 main_cst_9
  let main_v29 : IVec S8 1 := cmpf .ole main_v27 main_v28
  let main_c_10 : IVec S_ 1 := constantI S_ 1 1#1
  let main_v30 : IVec S_ 1 := (fun x v => Host.reduce IntOp.andi x v reducesTo_S8_S_d0 h_S_) main_v29 main_c_10
  let main_v31 : IVec S_ 1 := andi main_v24 main_v30
  let main_cst_11 : FVec F S_ .f32 := constant S_ .f32 0x00000000#32
  let main_v32 : FVec F S8 .f32 := broadcastInDim S8 ![] bcast_S_S8 main_cst_11
  let main_v33 : IVec S8 1 := cmpf .oge main_arg2 main_v32
  fn_part2 (F := F) main_arg2 main_v31 main_v33

def fn {F : FTy → Type} [FloatOps F] (main_arg0 : FVec F S500000 .f32) (main_arg1 : FVec F S8x8 .f32) (main_arg2 : FVec F S8 .f32) : IVec S_ 1 :=
  let main_v0 : IVec S8x8 32 := iotaInDim S8x8 32 0
  let main_v1 : IVec S8x8 32 := iotaInDim S8x8 32 1
  let main_c : IVec S_ 32 := constantI S_ 32 0#32
  let main_v2 : IVec S8x8 32 := broadcastInDim S8x8 ![] bcast_S_S8x8 main_c
  let main_v3 : IVec S8x8 32 := addi main_v0 main_v2
  let main_v4 : IVec S8x8 1 := cmpi .eq main_v3 main_v1
  let main_v5 : FVec F S8x8 .f32 := uitofp .f32 main_v4
  let main_cst : FVec F S_ .f32 := constant S_ .f32 0xFF800000#32
  let main_v6 : FVec F S500000 .f32 := broadcastInDim S500000 ![] bcast_S_S500000 main_cst
  let main_v7 : IVec S500000 1 := cmpf .ogt main_arg0 main_v6
  let main_cst_0 : FVec F S_ .f32 := constant S_ .f32 0x7F800000#32
  let main_v8 : FVec F S500000 .f32 := broadcastInDim S500000 ![] bcast_S_S500000 main_cst_0
  let main_v9 : IVec S500000 1 := cmpf .olt main_arg0 main_v8
  let main_v10 : IVec S500000 1 := andi main_v7 main_v9
  let main_c_1 : IVec S_ 1 := constantI S_ 1 1#1
  let main_v11 : IVec S_ 1 := (fun x v => Host.reduce IntOp.andi x v reducesTo_S500000_S_d0 h_S_) main_v10 main_c_1
  let main_cst_2 : FVec F S_ .f32 := constant S_ .f32 0x3F800000#32
  let main_v12 : FVec F S8x8 .f32 := broadcastInDim S8x8 ![] bcast_S_S8x8 main_cst_2
  let main_v13 : FVec F S8x8 .f32 := subf main_v12 main_v5
  let main_v14 : FVec F S8x8 .f32 := mulf main_arg1 main_v13
  let main_cst_3 : FVec F S_ .f32 := constant S_ .f32 0x00000000#32
  let main_v15 : FVec F S8x8 .f32 := broadcastInDim S8x8 ![] bcast_S_S8x8 main_cst_3
  let main_v16 : IVec S8x8 1 := cmpf .oge main_v14 main_v15
  let main_c_4 : IVec S_ 1 := constantI S_ 1 1#1
  fn_part1 (F := F) main_arg1 main_arg2 main_v5 main_v11 main_v16 main_c_4
-- ==== Kernel.lean ====
abbrev S500000 : Shape := ⟨1, ![500000]⟩
abbrev S8x8 : Shape := ⟨2, ![8, 8]⟩
abbrev S8 : Shape := ⟨1, ![8]⟩
abbrev S_ : Shape := ⟨0, ![]⟩
abbrev S7904 : Shape := ⟨1, ![7904]⟩
abbrev S507904 : Shape := ⟨1, ![507904]⟩
abbrev S3968x128 : Shape := ⟨2, ![3968, 128]⟩
abbrev S1x8 : Shape := ⟨2, ![1, 8]⟩
abbrev S1x1 : Shape := ⟨2, ![1, 1]⟩
abbrev S20 : Shape := ⟨1, ![20]⟩
abbrev S8x1 : Shape := ⟨2, ![8, 1]⟩
abbrev S1x8x1 : Shape := ⟨3, ![1, 8, 1]⟩
abbrev S1 : Shape := ⟨1, ![1]⟩
abbrev S1x1x1 : Shape := ⟨3, ![1, 1, 1]⟩
abbrev S1x1x8 : Shape := ⟨3, ![1, 1, 8]⟩
abbrev S64x128 : Shape := ⟨2, ![64, 128]⟩
abbrev S1x64x128 : Shape := ⟨3, ![1, 64, 128]⟩

abbrev nBuf : Space → Nat
  | .hbm => 10
  | .vmem => 4
  | .smem => 1
  | _ => 0

abbrev bufTy : (tb : Table) → Fin (tcTables nBuf tb) → BufTy
  | .hbm, ⟨0, _⟩ => ⟨S500000, .f32⟩
  | .hbm, ⟨1, _⟩ => ⟨S8x8, .f32⟩
  | .hbm, ⟨2, _⟩ => ⟨S8, .f32⟩
  | .hbm, ⟨3, _⟩ => ⟨S_, .f32⟩
  | .hbm, ⟨4, _⟩ => ⟨S7904, .f32⟩
  | .hbm, ⟨5, _⟩ => ⟨S507904, .f32⟩
  | .hbm, ⟨6, _⟩ => ⟨S3968x128, .f32⟩
  | .hbm, ⟨7, _⟩ => ⟨S1x8, .f32⟩
  | .hbm, ⟨8, _⟩ => ⟨S1x1, .f32⟩
  | .hbm, ⟨9, _⟩ => ⟨S_, .f32⟩
  | .local _ .vmem, ⟨0, _⟩ => ⟨S8x8, .f32⟩
  | .local _ .vmem, ⟨1, _⟩ => ⟨S1x8, .f32⟩
  | .local _ .vmem, ⟨2, _⟩ => ⟨S3968x128, .f32⟩
  | .local _ .vmem, ⟨3, _⟩ => ⟨S1x1, .f32⟩
  | .local _ .smem, ⟨0, _⟩ => ⟨S20, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3968x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "inv_fact_10" => some ((1 / 3628800 : ℝ) : EReal)
  | "inv_fact_11" => some ((1 / 39916800 : ℝ) : EReal)
  | "inv_fact_12" => some ((1 / 479001600 : ℝ) : EReal)
  | "inv_fact_13" => some ((1 / 6227020800 : ℝ) : EReal)
  | "inv_fact_14" => some ((1 / 87178291200 : ℝ) : EReal)
  | "inv_fact_15" => some ((1 / 1307674368000 : ℝ) : EReal)
  | "inv_fact_16" => some ((1 / 20922789888000 : ℝ) : EReal)
  | "inv_fact_17" => some ((1 / 355687428096000 : ℝ) : EReal)
  | "inv_fact_3" => some ((1 / 6 : ℝ) : EReal)
  | "inv_fact_4" => some ((1 / 24 : ℝ) : EReal)
  | "inv_fact_5" => some ((1 / 120 : ℝ) : EReal)
  | "inv_fact_6" => some ((1 / 720 : ℝ) : EReal)
  | "inv_fact_7" => some ((1 / 5040 : ℝ) : EReal)
  | "inv_fact_8" => some ((1 / 40320 : ℝ) : EReal)
  | "inv_fact_9" => some ((1 / 362880 : ℝ) : EReal)
  | "inv_pair_10" => some ((1 / 90 : ℝ) : EReal)
  | "inv_pair_11" => some ((1 / 110 : ℝ) : EReal)
  | "inv_pair_12" => some ((1 / 132 : ℝ) : EReal)
  | "inv_pair_13" => some ((1 / 156 : ℝ) : EReal)
  | "inv_pair_14" => some ((1 / 182 : ℝ) : EReal)
  | "inv_pair_15" => some ((1 / 210 : ℝ) : EReal)
  | "inv_pair_16" => some ((1 / 240 : ℝ) : EReal)
  | "inv_pair_17" => some ((1 / 272 : ℝ) : EReal)
  | "inv_pair_18" => some ((1 / 306 : ℝ) : EReal)
  | "inv_pair_19" => some ((1 / 342 : ℝ) : EReal)
  | "inv_pair_20" => some ((1 / 380 : ℝ) : EReal)
  | "inv_pair_4" => some ((1 / 12 : ℝ) : EReal)
  | "inv_pair_5" => some ((1 / 20 : ℝ) : EReal)
  | "inv_pair_6" => some ((1 / 30 : ℝ) : EReal)
  | "inv_pair_7" => some ((1 / 42 : ℝ) : EReal)
  | "inv_pair_8" => some ((1 / 56 : ℝ) : EReal)
  | "inv_pair_9" => some ((1 / 72 : ℝ) : EReal)
  | _ => none
-- ==== ReferenceIdeal.lean ====
abbrev S500000 : Shape := ⟨1, ![500000]⟩
abbrev S8x8 : Shape := ⟨2, ![8, 8]⟩
abbrev S8 : Shape := ⟨1, ![8]⟩
abbrev S_ : Shape := ⟨0, ![]⟩
abbrev S500000x1x1 : Shape := ⟨3, ![500000, 1, 1]⟩
abbrev S1x8x8 : Shape := ⟨3, ![1, 8, 8]⟩
abbrev S500000x8x8 : Shape := ⟨3, ![500000, 8, 8]⟩
abbrev S500000x8 : Shape := ⟨2, ![500000, 8]⟩

abbrev nBuf : Space → Nat
  | .hbm => 247
  | .vmem => 0
  | .smem => 0
  | _ => 0

abbrev hbmTy0_0 (i : Nat) : BufTy := match i % 128 with
  | 0 => ⟨S500000, .f32⟩
  | 1 => ⟨S8x8, .f32⟩
  | 2 => ⟨S8, .f32⟩
  | 3 => ⟨S_, .f32⟩
  | 4 => ⟨S8, .f32⟩
  | 5 => ⟨S8, .f32⟩
  | 6 => ⟨S8x8, .i32⟩
  | 7 => ⟨S8x8, .i32⟩
  | 8 => ⟨S_, .i32⟩
  | 9 => ⟨S8x8, .i32⟩
  | 10 => ⟨S8x8, .i32⟩
  | 11 => ⟨S8x8, .i1⟩
  | 12 => ⟨S8x8, .f32⟩
  | 13 => ⟨S8x8, .f32⟩
  | 14 => ⟨S_, .f32⟩
  | 15 => ⟨S8, .f32⟩
  | 16 => ⟨S8, .f32⟩
  | 17 => ⟨S_, .f32⟩
  | 18 => ⟨S_, .f32⟩
  | 19 => ⟨S8x8, .f32⟩
  | 20 => ⟨S8x8, .f32⟩
  | 21 => ⟨S8x8, .f32⟩
  | 22 => ⟨S_, .f32⟩
  | 23 => ⟨S500000, .f32⟩
  | 24 => ⟨S500000, .f32⟩
  | 25 => ⟨S_, .f32⟩
  | 26 => ⟨S500000, .f32⟩
  | 27 => ⟨S500000, .f32⟩
  | 28 => ⟨S500000, .f32⟩
  | 29 => ⟨S500000x1x1, .f32⟩
  | 30 => ⟨S_, .f32⟩
  | 31 => ⟨S8x8, .f32⟩
  | 32 => ⟨S8x8, .f32⟩
  | 33 => ⟨S8x8, .i32⟩
  | 34 => ⟨S8x8, .i32⟩
  | 35 => ⟨S_, .i32⟩
  | 36 => ⟨S8x8, .i32⟩
  | 37 => ⟨S8x8, .i32⟩
  | 38 => ⟨S8x8, .i1⟩
  | 39 => ⟨S8x8, .f32⟩
  | 40 => ⟨S8x8, .f32⟩
  | 41 => ⟨S_, .f32⟩
  | 42 => ⟨S8x8, .f32⟩
  | 43 => ⟨S8x8, .f32⟩
  | 44 => ⟨S8x8, .f32⟩
  | 45 => ⟨S8x8, .f32⟩
  | 46 => ⟨S_, .f32⟩
  | 47 => ⟨S8x8, .f32⟩
  | 48 => ⟨S8x8, .f32⟩
  | 49 => ⟨S8x8, .f32⟩
  | 50 => ⟨S8x8, .f32⟩
  | 51 => ⟨S_, .f32⟩
  | 52 => ⟨S8x8, .f32⟩
  | 53 => ⟨S8x8, .f32⟩
  | 54 => ⟨S8x8, .f32⟩
  | 55 => ⟨S8x8, .f32⟩
  | 56 => ⟨S_, .f32⟩
  | 57 => ⟨S8x8, .f32⟩
  | 58 => ⟨S8x8, .f32⟩
  | 59 => ⟨S8x8, .f32⟩
  | 60 => ⟨S8x8, .f32⟩
  | 61 => ⟨S_, .f32⟩
  | 62 => ⟨S8x8, .f32⟩
  | 63 => ⟨S8x8, .f32⟩
  | 64 => ⟨S8x8, .f32⟩
  | 65 => ⟨S8x8, .f32⟩
  | 66 => ⟨S_, .f32⟩
  | 67 => ⟨S8x8, .f32⟩
  | 68 => ⟨S8x8, .f32⟩
  | 69 => ⟨S8x8, .f32⟩
  | 70 => ⟨S8x8, .f32⟩
  | 71 => ⟨S_, .f32⟩
  | 72 => ⟨S8x8, .f32⟩
  | 73 => ⟨S8x8, .f32⟩
  | 74 => ⟨S8x8, .f32⟩
  | 75 => ⟨S8x8, .f32⟩
  | 76 => ⟨S_, .f32⟩
  | 77 => ⟨S8x8, .f32⟩
  | 78 => ⟨S8x8, .f32⟩
  | 79 => ⟨S8x8, .f32⟩
  | 80 => ⟨S8x8, .f32⟩
  | 81 => ⟨S_, .f32⟩
  | 82 => ⟨S8x8, .f32⟩
  | 83 => ⟨S8x8, .f32⟩
  | 84 => ⟨S8x8, .f32⟩
  | 85 => ⟨S8x8, .f32⟩
  | 86 => ⟨S_, .f32⟩
  | 87 => ⟨S8x8, .f32⟩
  | 88 => ⟨S8x8, .f32⟩
  | 89 => ⟨S8x8, .f32⟩
  | 90 => ⟨S8x8, .f32⟩
  | 91 => ⟨S_, .f32⟩
  | 92 => ⟨S8x8, .f32⟩
  | 93 => ⟨S8x8, .f32⟩
  | 94 => ⟨S8x8, .f32⟩
  | 95 => ⟨S8x8, .f32⟩
  | 96 => ⟨S_, .f32⟩
  | 97 => ⟨S8x8, .f32⟩
  | 98 => ⟨S8x8, .f32⟩
  | 99 => ⟨S8x8, .f32⟩
  | 100 => ⟨S8x8, .f32⟩
  | 101 => ⟨S_, .f32⟩
  | 102 => ⟨S8x8, .f32⟩
  | 103 => ⟨S8x8, .f32⟩
  | 104 => ⟨S8x8, .f32⟩
  | 105 => ⟨S8x8, .f32⟩
  | 106 => ⟨S_, .f32⟩
  | 107 => ⟨S8x8, .f32⟩
  | 108 => ⟨S8x8, .f32⟩
  | 109 => ⟨S8x8, .f32⟩
  | 110 => ⟨S8x8, .f32⟩
  | 111 => ⟨S_, .f32⟩
  | 112 => ⟨S8x8, .f32⟩
  | 113 => ⟨S8x8, .f32⟩
  | 114 => ⟨S8x8, .f32⟩
  | 115 => ⟨S8x8, .f32⟩
  | 116 => ⟨S_, .f32⟩
  | 117 => ⟨S8x8, .f32⟩
  | 118 => ⟨S8x8, .f32⟩
  | 119 => ⟨S8x8, .f32⟩
  | 120 => ⟨S8x8, .f32⟩
  | 121 => ⟨S_, .f32⟩
  | 122 => ⟨S8x8, .f32⟩
  | 123 => ⟨S8x8, .f32⟩
  | 124 => ⟨S8x8, .f32⟩
  | 125 => ⟨S8x8, .f32⟩
  | 126 => ⟨S_, .f32⟩
  | 127 => ⟨S8x8, .f32⟩
  | _ => ⟨S500000, .f32⟩

abbrev hbmTy0_1 (i : Nat) : BufTy := match i % 128 with
  | 0 => ⟨S8x8, .f32⟩
  | 1 => ⟨S8x8, .f32⟩
  | 2 => ⟨S8x8, .f32⟩
  | 3 => ⟨S_, .f32⟩
  | 4 => ⟨S8x8, .f32⟩
  | 5 => ⟨S8x8, .f32⟩
  | 6 => ⟨S8x8, .f32⟩
  | 7 => ⟨S8x8, .f32⟩
  | 8 => ⟨S_, .f32⟩
  | 9 => ⟨S8x8, .f32⟩
  | 10 => ⟨S8x8, .f32⟩
  | 11 => ⟨S8x8, .f32⟩
  | 12 => ⟨S500000x1x1, .f32⟩
  | 13 => ⟨S1x8x8, .f32⟩
  | 14 => ⟨S500000x8x8, .f32⟩
  | 15 => ⟨S500000x8x8, .f32⟩
  | 16 => ⟨S500000x8x8, .f32⟩
  | 17 => ⟨S8x8, .i32⟩
  | 18 => ⟨S8x8, .i32⟩
  | 19 => ⟨S_, .i32⟩
  | 20 => ⟨S8x8, .i32⟩
  | 21 => ⟨S8x8, .i32⟩
  | 22 => ⟨S8x8, .i1⟩
  | 23 => ⟨S8x8, .f32⟩
  | 24 => ⟨S500000x8x8, .f32⟩
  | 25 => ⟨S500000x8x8, .f32⟩
  | 26 => ⟨S_, .f32⟩
  | 27 => ⟨S500000x8x8, .f32⟩
  | 28 => ⟨S500000x8x8, .f32⟩
  | 29 => ⟨S500000x8x8, .f32⟩
  | 30 => ⟨S500000x8x8, .f32⟩
  | 31 => ⟨S_, .f32⟩
  | 32 => ⟨S500000x8x8, .f32⟩
  | 33 => ⟨S500000x8x8, .f32⟩
  | 34 => ⟨S500000x8x8, .f32⟩
  | 35 => ⟨S500000x8x8, .f32⟩
  | 36 => ⟨S_, .f32⟩
  | 37 => ⟨S500000x8x8, .f32⟩
  | 38 => ⟨S500000x8x8, .f32⟩
  | 39 => ⟨S500000x8x8, .f32⟩
  | 40 => ⟨S500000x8x8, .f32⟩
  | 41 => ⟨S_, .f32⟩
  | 42 => ⟨S500000x8x8, .f32⟩
  | 43 => ⟨S500000x8x8, .f32⟩
  | 44 => ⟨S500000x8x8, .f32⟩
  | 45 => ⟨S500000x8x8, .f32⟩
  | 46 => ⟨S_, .f32⟩
  | 47 => ⟨S500000x8x8, .f32⟩
  | 48 => ⟨S500000x8x8, .f32⟩
  | 49 => ⟨S500000x8x8, .f32⟩
  | 50 => ⟨S500000x8x8, .f32⟩
  | 51 => ⟨S_, .f32⟩
  | 52 => ⟨S500000x8x8, .f32⟩
  | 53 => ⟨S500000x8x8, .f32⟩
  | 54 => ⟨S500000x8x8, .f32⟩
  | 55 => ⟨S500000x8x8, .f32⟩
  | 56 => ⟨S_, .f32⟩
  | 57 => ⟨S500000x8x8, .f32⟩
  | 58 => ⟨S500000x8x8, .f32⟩
  | 59 => ⟨S500000x8x8, .f32⟩
  | 60 => ⟨S500000x8x8, .f32⟩
  | 61 => ⟨S_, .f32⟩
  | 62 => ⟨S500000x8x8, .f32⟩
  | 63 => ⟨S500000x8x8, .f32⟩
  | 64 => ⟨S500000x8x8, .f32⟩
  | 65 => ⟨S500000x8x8, .f32⟩
  | 66 => ⟨S_, .f32⟩
  | 67 => ⟨S500000x8x8, .f32⟩
  | 68 => ⟨S500000x8x8, .f32⟩
  | 69 => ⟨S500000x8x8, .f32⟩
  | 70 => ⟨S500000x8x8, .f32⟩
  | 71 => ⟨S_, .f32⟩
  | 72 => ⟨S500000x8x8, .f32⟩
  | 73 => ⟨S500000x8x8, .f32⟩
  | 74 => ⟨S500000x8x8, .f32⟩
  | 75 => ⟨S500000x8x8, .f32⟩
  | 76 => ⟨S_, .f32⟩
  | 77 => ⟨S500000x8x8, .f32⟩
  | 78 => ⟨S500000x8x8, .f32⟩
  | 79 => ⟨S500000x8x8, .f32⟩
  | 80 => ⟨S500000x8x8, .f32⟩
  | 81 => ⟨S_, .f32⟩
  | 82 => ⟨S500000x8x8, .f32⟩
  | 83 => ⟨S500000x8x8, .f32⟩
  | 84 => ⟨S500000x8x8, .f32⟩
  | 85 => ⟨S500000x8x8, .f32⟩
  | 86 => ⟨S_, .f32⟩
  | 87 => ⟨S500000x8x8, .f32⟩
  | 88 => ⟨S500000x8x8, .f32⟩
  | 89 => ⟨S500000x8x8, .f32⟩
  | 90 => ⟨S500000x8x8, .f32⟩
  | 91 => ⟨S_, .f32⟩
  | 92 => ⟨S500000x8x8, .f32⟩
  | 93 => ⟨S500000x8x8, .f32⟩
  | 94 => ⟨S500000x8x8, .f32⟩
  | 95 => ⟨S500000x8x8, .f32⟩
  | 96 => ⟨S_, .f32⟩
  | 97 => ⟨S500000x8x8, .f32⟩
  | 98 => ⟨S500000x8x8, .f32⟩
  | 99 => ⟨S500000x8x8, .f32⟩
  | 100 => ⟨S500000x8x8, .f32⟩
  | 101 => ⟨S_, .f32⟩
  | 102 => ⟨S500000x8x8, .f32⟩
  | 103 => ⟨S500000x8x8, .f32⟩
  | 104 => ⟨S500000x8x8, .f32⟩
  | 105 => ⟨S500000x8x8, .f32⟩
  | 106 => ⟨S_, .f32⟩
  | 107 => ⟨S500000x8x8, .f32⟩
  | 108 => ⟨S500000x8x8, .f32⟩
  | 109 => ⟨S500000x8x8, .f32⟩
  | 110 => ⟨S500000x8x8, .f32⟩
  | 111 => ⟨S500000x8x8, .f32⟩
  | 112 => ⟨S500000x8x8, .f32⟩
  | 113 => ⟨S500000x8x8, .f32⟩
  | 114 => ⟨S500000x8, .f32⟩
  | 115 => ⟨S500000, .f32⟩
  | 116 => ⟨S500000, .f32⟩
  | 117 => ⟨S_, .f32⟩
  | 118 => ⟨S_, .f32⟩
  | _ => ⟨S500000, .f32⟩

abbrev hbmTy (i : Nat) : BufTy := match i / 128 with
  | 0 => hbmTy0_0 i
  | 1 => hbmTy0_1 i
  | _ => ⟨S500000, .f32⟩

abbrev bufTy : (tb : Table) → Fin (tcTables nBuf tb) → BufTy
  | .hbm, ⟨i, _⟩ => hbmTy i
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_12 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_13 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_15 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_16 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_17 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_18 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_19 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_20 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_21 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_22 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_23 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_24 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_c_25 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_26 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_27 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_28 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_29 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_cst_30 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_cst_31 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_cst_32 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_cst_33 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_cst_34 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_cst_35 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_cst_36 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_cst_37 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_cst_38 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_cst_39 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_cst_40 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_cst_41 : Ref sig .tc := ⟨.hbm, 229, rfl⟩
abbrev main_v183 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_cst_42 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_cst_43 : Ref sig .tc := ⟨.hbm, 245, rfl⟩
abbrev main_v197 : Ref sig .tc := ⟨.hbm, 246, rfl⟩

abbrev nD : Nat := 1
abbrev τ : Topo := Topo.v7x

variable {F : FTy → Type} [FloatOps F]
-- ==== Proof.Kernel.Model.lean ====
/-
  The kernel's body written with recursion.

  The printed body is one straight line of some four thousand operations: jax unrolled every loop of the source. Here the
  loops stand again, over the printed operations and at any float instance: the power iterations that alternate between a
  row and a column, the two accumulators of the row `A = α · T20(c·W0·P)`, the coefficients `b 0 … b 17`, Horner's rule, and
  the 62 chunks of the padded weights. The last theorem says that the value the body stores is this one.
-/
module

public import proofs.«01_k».proof.Proof.Gen.KernelIdeal.Frame

@[expose] public section

noncomputable section

namespace Cert.KernelIdeal.Model

open Idealize.ShloMosaic Cert.KernelIdeal Cert.KernelIdeal.Gen

variable {F : FTy → Type} [FloatOps F] [Named F]

/-- A float literal. -/
abbrev lit (b : BitVec 32) : F .f32 := Scalar.ofBits .f32 b

/-! ## Powers of a matrix against a vector -/

/-- `M · rᵀ` of a row `r`, as a column: the row is spread over the rows of `M`, multiplied in and summed along the lanes. -/
def toCol (M : FVec F S8x8 .f32) (r : FVec F S1x8 .f32) : FVec F S8x1 .f32 :=
  shapeCast S8x1 (multiReduction .add [1] S8 (mulf M (broadcastTo S8x8 r broadcasts_S1x8_S8x8)) 0x00000000#32
    reduces_S8x8_S8_2 (.inl rfl) rfl) shapeCasts_S8_S8x1

/-- `vᵀ · M` of a column `v`, as a row. -/
def toRow (M : FVec F S8x8 .f32) (v : FVec F S8x1 .f32) : FVec F S1x8 .f32 :=
  shapeCast S1x8 (multiReduction .add [0] S8 (mulf M (broadcastTo S8x8 v broadcasts_S8x1_S8x8)) 0x00000000#32
    reduces_S8x8_S8 (.inl rfl) rfl) shapeCasts_S8_S1x8

/-- The row after `i` double steps (row to column by `M`, column to row by `N`). -/
def rowAt (M N : FVec F S8x8 .f32) (r : FVec F S1x8 .f32) (i : ℕ) : FVec F S1x8 .f32 :=
  Nat.rec r (fun _ x => toRow N (toCol M x)) i

/-- The column after `i` double steps (column to row by `N`, row to column by `M`). -/
def colAt (M N : FVec F S8x8 .f32) (v : FVec F S8x1 .f32) (i : ℕ) : FVec F S8x1 .f32 :=
  Nat.rec v (fun _ x => toCol M (toRow N x)) i

/-! ## The row `A` -/

/-- The constant `1 / (k (k - 1))` of the weight of power `k`: two literals of the source, then the named constants. -/
def pairConst : ℕ → F .f32
  | 2 => lit 0x3F000000#32
  | 3 => Named.named κ "inv_fact_3" 0x3E2AAAAB#32
  | 4 => Named.named κ "inv_pair_4" 0x3DAAAAAB#32
  | 5 => Named.named κ "inv_pair_5" 0x3D4CCCCD#32
  | 6 => Named.named κ "inv_pair_6" 0x3D088889#32
  | 7 => Named.named κ "inv_pair_7" 0x3CC30C31#32
  | 8 => Named.named κ "inv_pair_8" 0x3C924925#32
  | 9 => Named.named κ "inv_pair_9" 0x3C638E39#32
  | 10 => Named.named κ "inv_pair_10" 0x3C360B61#32
  | 11 => Named.named κ "inv_pair_11" 0x3C14F209#32
  | 12 => Named.named κ "inv_pair_12" 0x3BF83E10#32
  | 13 => Named.named κ "inv_pair_13" 0x3BD20D21#32
  | 14 => Named.named κ "inv_pair_14" 0x3BB40B41#32
  | 15 => Named.named κ "inv_pair_15" 0x3B9C09C1#32
  | 16 => Named.named κ "inv_pair_16" 0x3B888889#32
  | 17 => Named.named κ "inv_pair_17" 0x3B70F0F1#32
  | 18 => Named.named κ "inv_pair_18" 0x3B562B81#32
  | 19 => Named.named κ "inv_pair_19" 0x3B3FA030#32
  | _ => Named.named κ "inv_pair_20" 0x3B2C7692#32

/-- One step of a weight: from that of power `k - 2` to that of power `k`. -/
def gamStep (x g : FVec F S1x1 .f32) (k : ℕ) : FVec F S1x1 .f32 :=
  mulf (mulf (mulf g x) x) (broadcast S1x1 (pairConst k))

/-- The weight `x^k / k!` of the even power `k = 2 j`. -/
def gamE (x : FVec F S1x1 .f32) (j : ℕ) : FVec F S1x1 .f32 :=
  Nat.rec (broadcast S1x1 (lit 0x3F800000#32)) (fun j g => gamStep x g (2 * j + 2)) j

/-- The weight `x^k / k!` of the odd power `k = 2 j + 1`. -/
def gamO (x : FVec F S1x1 .f32) (j : ℕ) : FVec F S1x1 .f32 :=
  Nat.rec x (fun j g => gamStep x g (2 * j + 3)) j

/-- A row with a weight multiplied in, added to an accumulator. -/
def addRow (acc : FVec F S1x8 .f32) (g : FVec F S1x1 .f32) (r : FVec F S1x8 .f32) : FVec F S1x8 .f32 :=
  addf acc (mulf (broadcastTo S1x8 g broadcasts_S1x1_S1x8) r)

/-- A column with a weight multiplied in, added to an accumulator. -/
def addCol (acc : FVec F S8x1 .f32) (g : FVec F S1x1 .f32) (v : FVec F S8x1 .f32) : FVec F S8x1 .f32 :=
  addf acc (mulf (broadcastTo S8x1 g broadcasts_S1x1_S8x1) v)

/-- The row accumulator after `i` rounds: the powers 0, then 4 i + 3 and 4 i + 4. -/
def arAcc (M N : FVec F S8x8 .f32) (x : FVec F S1x1 .f32) (a : FVec F S1x8 .f32) (t : FVec F S8x1 .f32) (i : ℕ) :
    FVec F S1x8 .f32 :=
  Nat.rec a (fun i acc => addRow (addRow acc (gamO x (2 * i + 1)) (toRow N (colAt M N t i)))
    (gamE x (2 * i + 2)) (rowAt M N a (i + 1))) i

/-- The column accumulator after `i` further rounds: the powers 1 and 2, then 4 i + 5 and 4 i + 6. -/
def acAcc (M N : FVec F S8x8 .f32) (x : FVec F S1x1 .f32) (a : FVec F S1x8 .f32) (t : FVec F S8x1 .f32) (i : ℕ) :
    FVec F S8x1 .f32 :=
  Nat.rec (addCol (mulf (broadcastTo S8x1 x broadcasts_S1x1_S8x1) t) (gamE x 1) (toCol M (rowAt M N a 0)))
    (fun i acc => addCol (addCol acc (gamO x (2 * i + 2)) (colAt M N t (i + 1)))
      (gamE x (2 * i + 3)) (toCol M (rowAt M N a (i + 1)))) i

/-- The row `A`: both accumulators together, the column one turned. -/
def aRow (S : Vec F S8x8 .f32) (α : Vec F S1x8 .f32) : FVec F S1x8 .f32 :=
  addf (arAcc (k0_pay9 S) (k0_pay8 S) (k0_pay10 S) (k0_pay2 α) (toCol (k0_pay7 S) (k0_pay2 α)) 5)
    (transpose S1x8 [1, 0] (acAcc (k0_pay9 S) (k0_pay8 S) (k0_pay10 S) (k0_pay2 α) (toCol (k0_pay7 S) (k0_pay2 α)) 4)
      transposes_S8x1_p1_0_S1x8)

/-! ## The coefficients -/

/-- The inner product of `A` with a row. -/
def dotRow (A r : FVec F S1x8 .f32) : FVec F S1x1 .f32 :=
  broadcast S1x1 (extractAt ![0, 0, 0] (shapeCast S1x1x1 (multiReduction .add [1, 2] S1
    (shapeCast S1x1x8 (mulf A r) shapeCasts_S1x8_S1x1x8) 0x00000000#32 reduces_S1x1x8_S1 (.inl rfl) rfl)
    shapeCasts_S1_S1x1x1) inpos_S1x1x1_p0_0_0)

/-- The inner product of `A`, turned, with a column. -/
def dotCol (A : FVec F S1x8 .f32) (v : FVec F S8x1 .f32) : FVec F S1x1 .f32 :=
  broadcast S1x1 (extractAt ![0, 0, 0] (shapeCast S1x1x1 (multiReduction .add [1, 2] S1
    (shapeCast S1x8x1 (mulf (transpose S8x1 [1, 0] A transposes_S1x8_p1_0_S8x1) v) shapeCasts_S8x1_S1x8x1) 0x00000000#32
    reduces_S1x8x1_S1 (.inl rfl) rfl) shapeCasts_S1_S1x1x1) inpos_S1x1x1_p0_0_0)

/-- `u m = A · P^m · s`, the power applied in steps of two and the vector a row or a column by `m` modulo 4. -/
def us (S : Vec F S8x8 .f32) (A : FVec F S1x8 .f32) (m : ℕ) : FVec F S1x1 .f32 :=
  match m % 4 with
  | 0 => dotRow A (rowAt (k0_pay8 S) (k0_pay9 S) (k0_pay4 S) (m / 4))
  | 1 => dotCol A (colAt (k0_pay8 S) (k0_pay9 S) (toCol (k0_pay6 S) (k0_pay4 S)) (m / 4))
  | 2 => dotCol A (toCol (k0_pay8 S) (rowAt (k0_pay8 S) (k0_pay9 S) (k0_pay4 S) (m / 4)))
  | _ => dotRow A (toRow (k0_pay9 S) (colAt (k0_pay8 S) (k0_pay9 S) (toCol (k0_pay6 S) (k0_pay4 S)) (m / 4)))

/-- The constant `1 / m!`. -/
def factConst : ℕ → F .f32
  | 1 => lit 0x3F800000#32
  | 2 => lit 0x3F000000#32
  | 3 => Named.named κ "inv_fact_3" 0x3E2AAAAB#32
  | 4 => Named.named κ "inv_fact_4" 0x3D2AAAAB#32
  | 5 => Named.named κ "inv_fact_5" 0x3C088889#32
  | 6 => Named.named κ "inv_fact_6" 0x3AB60B61#32
  | 7 => Named.named κ "inv_fact_7" 0x39500D01#32
  | 8 => Named.named κ "inv_fact_8" 0x37D00D01#32
  | 9 => Named.named κ "inv_fact_9" 0x3638EF1D#32
  | 10 => Named.named κ "inv_fact_10" 0x3493F27E#32
  | 11 => Named.named κ "inv_fact_11" 0x32D7322B#32
  | 12 => Named.named κ "inv_fact_12" 0x310F76C7#32
  | 13 => Named.named κ "inv_fact_13" 0x2F309231#32
  | 14 => Named.named κ "inv_fact_14" 0x2D49CBA5#32
  | 15 => Named.named κ "inv_fact_15" 0x2B573F9F#32
  | 16 => Named.named κ "inv_fact_16" 0x29573F9F#32
  | _ => Named.named κ "inv_fact_17" 0x274A963C#32

/-- `c^(m+1)`. -/
def cPow (c : FVec F S1x1 .f32) (m : ℕ) : FVec F S1x1 .f32 := Nat.rec c (fun _ p => mulf p c) m

/-- The coefficient `b m = u m · (1/m!) · c^m`. -/
def bs (S : Vec F S8x8 .f32) (α : Vec F S1x8 .f32) (m : ℕ) : FVec F S1x1 .f32 :=
  Nat.casesOn m (us S (aRow S α) 0) fun m =>
    mulf (mulf (us S (aRow S α) (m + 1)) (broadcast S1x1 (factConst (m + 1)))) (cPow (k0_pay5 S) m)

/-- Horner's rule on `b 17, b 16, …` at `d`, after `n` steps. -/
def horner {s : Shape} (b : ℕ → FVec F s .f32) (d : FVec F s .f32) (n : ℕ) : FVec F s .f32 :=
  Nat.rec (b 17) (fun n acc => addf (mulf acc d) (b (16 - n))) n

/-- The logarithm of the polynomial at a zero weight. -/
def logPad (S : Vec F S8x8 .f32) (α : Vec F S1x8 .f32) : FVec F S1x1 .f32 :=
  log (horner (bs S α) (broadcast S1x1 (lit 0xBFC33333#32)) 17)

/-- The one entry of a 1 × 1 block. -/
def entry (x : FVec F S1x1 .f32) : F .f32 := extractAt ![0, 0] x inpos_S1x1_p0_0

/-! ## The sums over the weights -/

/-- The logarithm of the polynomial on one chunk of weights. -/
def logChunk (S : Vec F S8x8 .f32) (α : Vec F S1x8 .f32) (w : FVec F S64x128 .f32) : FVec F S64x128 .f32 :=
  log (horner (fun m => broadcast S64x128 (entry (bs S α m))) (subf w (broadcast S64x128 (lit 0x3FC33333#32))) 17)

/-- The sum of the logarithms over the first `t` chunks. -/
def logSum (S : Vec F S8x8 .f32) (α : Vec F S1x8 .f32) (w : ℕ → FVec F S64x128 .f32) (t : ℕ) : FVec F S64x128 .f32 :=
  Nat.rec (broadcast S64x128 (lit 0x00000000#32)) (fun t acc => addf acc (logChunk S α (w t))) t

/-- The sum of the weights over the first `t` chunks. -/
def wSum (w : ℕ → FVec F S64x128 .f32) (t : ℕ) : FVec F S64x128 .f32 :=
  Nat.rec (broadcast S64x128 (lit 0x00000000#32)) (fun t acc => addf acc (w t)) t

/-- The sum of all entries of a chunk. -/
def total (x : FVec F S64x128 .f32) : FVec F S1x1 .f32 :=
  broadcast S1x1 (extractAt ![0, 0, 0] (shapeCast S1x1x1 (multiReduction .add [1, 2] S1
    (shapeCast S1x64x128 x shapeCasts_S64x128_S1x64x128) 0x00000000#32 reduces_S1x64x128_S1 (.inl rfl) rfl)
    shapeCasts_S1_S1x1x1) inpos_S1x1x1_p0_0_0)

/-- What the body stores: `Σ log p − c Σ w − n_pad · log p(0)`. -/
def out (S : Vec F S8x8 .f32) (α : Vec F S1x8 .f32) (w : ℕ → FVec F S64x128 .f32) : FVec F S1x1 .f32 :=
  subf (subf (total (logSum S α w 62)) (mulf (broadcast S1x1 (entry (k0_pay5 S))) (total (wSum w 62))))
    (broadcast S1x1 (Scalar.mulf (lit 0x45F70000#32) (entry (logPad S α))))

/-! ## The printed body -/

/-- Chunk `t` of the padded weights lies within the block (a chunk past the last counts as the last). -/
theorem chunk_inb (t : ℕ) : ∀ a, (![64 * min t 61, 0] : Fin 2 → ℕ) a + S64x128.size a ≤ S3968x128.size a := by
  intro a
  match a with
  | ⟨0, _⟩ => show 64 * min t 61 + 64 ≤ 3968; omega
  | ⟨1, _⟩ => show 0 + 128 ≤ 128; omega

/-- What the body loads as chunk `t`. -/
def chunk (arg3 : Memref sig .tc .vmem S3968x128 .f32) (harg3 : arg3.IsWhole) (x2 : Vec F S3968x128 .f32) (t : ℕ) :
    FVec F S64x128 .f32 :=
  shapeCast S64x128 (View.readAt (Elt F) arg3.view
    (Rect.unit (s := S3968x128) ![64 * min t 61, 0] S64x128.size (chunk_inb t)).toLoadRect (harg3.unread x2))
    shapeCasts_S64x128_S64x128

end Cert.KernelIdeal.Model

end
-- ==== Proof.Kernel.Stored.lean ====
/-
  What the kernel's printed body stores: one piece, the whole result, equal to the recursive model's `out` of the blocks
  that the body reads.
-/
module

public import proofs.«01_k».proof.Proof.Kernel.Model

@[expose] public section

set_option maxRecDepth 65536

noncomputable section

namespace Cert.KernelIdeal.Model

open Idealize.ShloMosaic Cert.KernelIdeal Cert.KernelIdeal.Gen

variable {F : FTy → Type} [FloatOps F] [Named F]

set_option maxHeartbeats 4000000 in
/-- The one piece that the printed body stores into its result is `out`. -/
theorem stored (c : Dev nD) (i : grid0.Coords) (arg1 : Memref sig .tc .vmem S8x8 .f32) (harg1 : arg1.IsWhole)
    (arg2 : Memref sig .tc .vmem S1x8 .f32) (harg2 : arg2.IsWhole) (arg3 : Memref sig .tc .vmem S3968x128 .f32)
    (harg3 : arg3.IsWhole) (arg4 : Memref sig .tc .vmem S1x1 .f32) (harg4 : arg4.IsWhole)
    (arg5 : Memref sig .tc .smem S20 .f32) (harg5 : arg5.IsWhole)
    (x0 : Vec F S8x8 .f32) (x1 : Vec F S1x8 .f32) (x2 : Vec F S3968x128 .f32) :
    (kernelRun0_A c i arg1 harg1 arg2 harg2 arg3 harg3 arg4 harg4 arg5 harg5 x0 x1 x2).1
      = [⟨Rect.unit (s := S1x1) ![0, 0] S1x1.size inb_S1x1_S1x1_0_0,
          out (View.readAt (Elt F) arg1.view (Rect.unit (s := S8x8) ![0, 0] S8x8.size inb_S8x8_S8x8_0_0).toLoadRect (harg1.unread x0))
            (View.readAt (Elt F) arg2.view (Rect.unit (s := S1x8) ![0, 0] S1x8.size inb_S1x8_S1x8_0_0).toLoadRect (harg2.unread x1))
            (chunk arg3 harg3 x2)⟩] := by
  sl_kernel_rfl

end Cert.KernelIdeal.Model

end
-- ==== Proof.Kernel.Run.lean ====
module

public import proofs.«01_k».proof.Proof.Kernel.Stored
public import Idealize.ShloMosaic.Lib.VecWindow
public import Idealize.ShloMosaic.Lib.Claim
public import Idealize.ShloMosaic.Lib.Pipeline.Value

@[expose] public section

set_option maxRecDepth 65536

/-! # What the kernel's runs leave in its result

One grid point, whose blocks are the whole arrays: so the result is `Model.out` of the rate matrix, of the starting
vector as a row, and of the 62 chunks of the padded weights. -/

noncomputable section

namespace Cert.KernelIdeal.Model

open Idealize.ShloMosaic Idealize.ShloMosaic.TcCoe Idealize.SL.Sem Cert.KernelIdeal Cert.KernelIdeal.Gen

variable {F : FTy → Type} [FloatOps F] [Named F]
variable (m : (ℓ : Loc nD τ sig) → Buf (Elt F) ℓ) (ρ : Dev nD → PrngReg)

/-- The weights, padded with zeros and laid out in rows of 128. -/
def padded (w : FVec F S500000 .f32) : FVec F S3968x128 .f32 :=
  shapeCast S3968x128 (concatenate S507904 0 [⟨S500000, w⟩,
    ⟨S7904, broadcastInDim S7904 ![] bcast_S_S7904 (constant S_ .f32 0x00000000#32)⟩]
    concatenates_S500000_S7904_S507904_d0) shapeCasts_S507904_S3968x128

/-- Chunk `t` of padded weights: 64 rows. -/
def piece (x : FVec F S3968x128 .f32) (t : ℕ) : FVec F S64x128 .f32 :=
  shapeCast S64x128 (VecWindow.window x ![64 * min t 61, 0] S64x128.size (chunk_inb t)) shapeCasts_S64x128_S64x128

/-- Before the call: the padded weights. -/
theorem V_main_v2 (c : Dev nD) : V m c main_v2 = padded (m ((c : Thread nD τ).loc main_arg0)) := by
  entry_read
  rfl

/-- Before the call: the starting vector as a row. -/
theorem V_main_v3 (c : Dev nD) : V m c main_v3
    = shapeCast S1x8 (m ((c : Thread nD τ).loc main_arg2)) shapeCasts_S8_S1x8 := by
  entry_read
  rfl

/-! ## The blocks are the arrays -/

/-- The first block is the rate matrix. -/
theorem iblk_0 (c : Dev nD) (t : Fin cfg0.N) : iblk m c 0 t = m ((c : Thread nD τ).loc main_arg1) := by
  rw [← V_main_arg1 m c]
  funext y
  show V m c main_arg1 (((cfg0.win 0).rect t).emb y) = V m c main_arg1 y
  refine congrArg _ (funext fun a => Fin.ext ?_)
  exact Pipeline.Window.rect_emb_val_of_index_zero (cfg0.win 0) t a (by match a with | ⟨0, _⟩ => rfl | ⟨1, _⟩ => rfl) y

/-- The second block is the starting vector as a row. -/
theorem iblk_1 (c : Dev nD) (t : Fin cfg0.N) : iblk m c 1 t
    = shapeCast S1x8 (m ((c : Thread nD τ).loc main_arg2)) shapeCasts_S8_S1x8 := by
  rw [← V_main_v3 m c]
  funext y
  show V m c main_v3 (((cfg0.win 1).rect t).emb y) = V m c main_v3 y
  refine congrArg _ (funext fun a => Fin.ext ?_)
  exact Pipeline.Window.rect_emb_val_of_index_zero (cfg0.win 1) t a (by match a with | ⟨0, _⟩ => rfl | ⟨1, _⟩ => rfl) y

/-- The third block is the padded weights. -/
theorem iblk_2 (c : Dev nD) (t : Fin cfg0.N) : iblk m c 2 t = padded (m ((c : Thread nD τ).loc main_arg0)) := by
  rw [← V_main_v2 m c]
  funext y
  show V m c main_v2 (((cfg0.win 2).rect t).emb y) = V m c main_v2 y
  refine congrArg _ (funext fun a => Fin.ext ?_)
  exact Pipeline.Window.rect_emb_val_of_index_zero (cfg0.win 2) t a (by match a with | ⟨0, _⟩ => rfl | ⟨1, _⟩ => rfl) y

/-! ## The result -/

/-- The result as a function of the three arguments. -/
def result (w : FVec F S500000 .f32) (S : FVec F S8x8 .f32) (α : FVec F S8 .f32) : FVec F S1x1 .f32 :=
  out S (shapeCast S1x8 α shapeCasts_S8_S1x8) (piece (padded w))

/-- A chunk read from the padded weights is `piece`. -/
theorem chunk_eq (arg3 : Memref sig .tc .vmem S3968x128 .f32) (harg3 : arg3.IsWhole) (x : Vec F S3968x128 .f32) :
    chunk arg3 harg3 x = piece x := by
  funext t
  unfold chunk piece
  rw [View.readAt_unit _ _ _ _ (chunk_inb t), harg3.read_unread]
  all_goals rfl

/-- What the one grid point leaves in its block. -/
theorem outsAt0_eq (c : Dev nD) (t : Fin cfg0.N) : outsAt0 m c t
    = result (m ((c : Thread nD τ).loc main_arg0)) (m ((c : Thread nD τ).loc main_arg1)) (m ((c : Thread nD τ).loc main_arg2)) := by
  unfold outsAt0 out0_A_3
  rw [stored, View.read_writes_full, View.readAt_full, View.readAt_full, Memref.IsWhole.read_unread,
    Memref.IsWhole.read_unread, chunk_eq, iblk_0, iblk_1, iblk_2]
  rfl

/-- A 1 × 1 array has one entry. -/
theorem idx_one (i j : S1x1.Idx) : i = j :=
  Shape.idx_ext₂ (n := S1x1.size) ((Nat.lt_one_iff.mp (i 0).isLt).trans (Nat.lt_one_iff.mp (j 0).isLt).symm)
    ((Nat.lt_one_iff.mp (i 1).isLt).trans (Nat.lt_one_iff.mp (j 1).isLt).symm)

/-- The result array after the call is the one block. -/
theorem final (c : Dev nD) (G : Buf (Elt F) ((c : Thread nD τ).loc main_v4))
    (hG : G = result (m ((c : Thread nD τ).loc main_arg0)) (m ((c : Thread nD τ).loc main_arg1)) (m ((c : Thread nD τ).loc main_arg2))) :
    (dats m 0 c).arrAt 3 cfg0.N = G := by
  refine (dats m 0 c).arrAt_eq_of_cover 3 G (fun t hf => ?_) (fun i => ⟨t0_0, flush0_3 _, ?_⟩)
  · show (cfg0.win 3).cut (grid0.coords t) ((dats m 0 c).after 3 t) = _
    rw [after0_3, outsAt0_eq, ← hG]
    funext y
    show G _ = G _
    exact congrArg G (idx_one _ _)
  · exact Finset.mem_map.mpr ⟨fun | ⟨0, _⟩ => ⟨0, Nat.one_pos⟩ | ⟨1, _⟩ => ⟨0, Nat.one_pos⟩, Finset.mem_univ _, idx_one _ _⟩

/-- Every execution ends with the result at `main_v5` and the arguments as they were. -/
theorem run : θ_run defs (onTc (τ := τ) (main (F := F))) ⟨m, fun _ => 0, ρ⟩ (fun r => ∀ c : Dev nD,
      r.2.mem ((c.tc : Thread nD τ).loc main_v5)
          = shapeCast S_ (result (m ((c : Thread nD τ).loc main_arg0)) (m ((c : Thread nD τ).loc main_arg1))
              (m ((c : Thread nD τ).loc main_arg2))) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono ?_ (θ_run_and (run_main m ρ) (unchanged m ρ))
  rintro r ⟨hr, hu⟩ c
  refine ⟨?_, hu c⟩
  refine ((hr c).2 main_v5 (Pipeline.mem_restRefs_of main_v5 rfl (by decide))).trans ?_
  unfold Pipeline.afterTail₀
  show StableHlo.after hostOps1 _ (Proc.devRef .tc main_v5) = _
  after_results
  refine congrArg (fun x : FVec F S1x1 .f32 => shapeCast S_ x shapeCasts_S1x1_S_) ?_
  exact (Pipeline.withArrays_arr (cfgs (0 : Fin 1)).spec (by decide) c (V0 m c) _ 3).trans (final m c _ rfl)

end Cert.KernelIdeal.Model

end
-- ==== Proof.Reference.Model.lean ====
module

public import proofs.«01_k».proof.Proof.Gen.ReferenceIdeal.Run
public import Idealize.ShloMosaic.Lib.Tactic

@[expose] public section

set_option maxRecDepth 65536

/-! # The reference by recursion

The reference's printed operations, its two series written by recursion on the number of terms: `density` is the
density at each weight, `total` the sum of the densities' logarithms. -/

noncomputable section

namespace Cert.ReferenceIdeal.Model

open Idealize.ShloMosaic Idealize.ShloMosaic.TcCoe Idealize.SL.Sem Cert.ReferenceIdeal Cert.ReferenceIdeal.Gen

variable {F : FTy → Type} [FloatOps F]

/-- The identity matrix. -/
def eye : FVec F S8x8 .f32 :=
  uitofp .f32 (cmpi .eq (addi (iotaInDim S8x8 32 0) (broadcastInDim S8x8 ![] bcast_S_S8x8 (constantI S_ 32 0#32))) (iotaInDim S8x8 32 1))

/-- The exit rates `−Σ_j S i j`. -/
def exits (S : FVec F S8x8 .f32) : FVec F S8 .f32 :=
  Host.negf (Host.reduceAdd S (constant S_ .f32 0x00000000#32) reducesTo_S8x8_S8_d1 h_S_)

/-- The largest total rate `max_i −S i i`. -/
def rate (S : FVec F S8x8 .f32) : FVec F S_ .f32 :=
  Host.reduce FloatOps.maximumf (Host.negf (Host.reduceAdd (mulf S eye) (constant S_ .f32 0x00000000#32) reducesTo_S8x8_S8_d1 h_S_))
    (constant S_ .f32 0xFF800000#32) reducesTo_S8_S_d0 h_S_

/-- `S + c I`. -/
def shifted (S : FVec F S8x8 .f32) : FVec F S8x8 .f32 := addf S (mulf (broadcastInDim S8x8 ![] bcast_S_S8x8 (rate S)) eye)

/-- The word of the number `n`, from 1 to 20. -/
def word (n : ℕ) : BitVec 32 :=
  match n with
  | 1 => 0x3F800000#32 | 2 => 0x40000000#32 | 3 => 0x40400000#32 | 4 => 0x40800000#32 | 5 => 0x40A00000#32
  | 6 => 0x40C00000#32 | 7 => 0x40E00000#32 | 8 => 0x41000000#32 | 9 => 0x41100000#32 | 10 => 0x41200000#32
  | 11 => 0x41300000#32 | 12 => 0x41400000#32 | 13 => 0x41500000#32 | 14 => 0x41600000#32 | 15 => 0x41700000#32
  | 16 => 0x41800000#32 | 17 => 0x41880000#32 | 18 => 0x41900000#32 | 19 => 0x41980000#32 | _ => 0x41A00000#32

/-! ## The series of one matrix -/

/-- `X^n / n!`. -/
def term (X : FVec F S8x8 .f32) (n : ℕ) : FVec F S8x8 .f32 :=
  Nat.rec eye (fun n T => Host.divf (Host.dotGeneral dot_S8x8_S8x8_S8x8_1_0_0_1_n_n none T X)
    (broadcastInDim S8x8 ![] bcast_S_S8x8 (constant S_ .f32 (word (n + 1))))) n

/-- The series of `X` up to degree `n`. -/
def series (X : FVec F S8x8 .f32) (n : ℕ) : FVec F S8x8 .f32 := Nat.rec eye (fun n T => addf T (term X (n + 1))) n

/-! ## The series of one matrix for each weight -/

/-- The identity matrix for each weight. -/
def eyes : FVec F S500000x8x8 .f32 := broadcastInDim S500000x8x8 ![1, 2] bcast_S8x8_S500000x8x8_1_2 eye

/-- `X n^k / k!` for each weight. -/
def terms (X : FVec F S500000x8x8 .f32) (k : ℕ) : FVec F S500000x8x8 .f32 :=
  Nat.rec eyes (fun k T => Host.divf (Host.dotGeneral dot_S500000x8x8_S500000x8x8_S500000x8x8_2_1_1_2_0_0 none T X)
    (broadcastInDim S500000x8x8 ![] bcast_S_S500000x8x8 (constant S_ .f32 (word (k + 1))))) k

/-- The series of each `X n` up to degree `k`. -/
def manySeries (X : FVec F S500000x8x8 .f32) (k : ℕ) : FVec F S500000x8x8 .f32 :=
  Nat.rec eyes (fun k T => addf T (terms X (k + 1))) k

/-! ## The density -/

/-- `A · (w n − W0)` for each weight. -/
def steps (w : FVec F S500000 .f32) (A : FVec F S8x8 .f32) : FVec F S500000x8x8 .f32 :=
  mulf (broadcastInDim S500000x8x8 ![0, 1, 2] bcast_S1x8x8_S500000x8x8_0_1_2 (broadcastInDim S1x8x8 ![1, 2] bcast_S8x8_S1x8x8_1_2 A))
    (broadcastInDim S500000x8x8 ![0, 1, 2] bcast_S500000x1x1_S500000x8x8_0_1_2 (broadcastInDim S500000x1x1 ![0] bcast_S500000_S500000x1x1_0
      (subf w (broadcastInDim S500000 ![] bcast_S_S500000 (constant S_ .f32 0x3FC33333#32)))))

/-- `A · W0`. -/
def start (A : FVec F S8x8 .f32) : FVec F S8x8 .f32 :=
  mulf A (broadcastInDim S8x8 ![] bcast_S_S8x8 (constant S_ .f32 0x3FC33333#32))

/-- `e^(−c w n)` at each entry. -/
def decay (w : FVec F S500000 .f32) (c : FVec F S_ .f32) : FVec F S500000x8x8 .f32 :=
  broadcastInDim S500000x8x8 ![0, 1, 2] bcast_S500000x1x1_S500000x8x8_0_1_2 (broadcastInDim S500000x1x1 ![0] bcast_S500000_S500000x1x1_0
    (Host.exp (mulf (broadcastInDim S500000 ![] bcast_S_S500000 (Host.negf c)) w)))

/-- The matrix exponential of `S w n` by its series. -/
def expm (w : FVec F S500000 .f32) (S : FVec F S8x8 .f32) : FVec F S500000x8x8 .f32 :=
  mulf (decay w (rate S)) (transpose S500000x8x8 [0, 2, 1]
    (Host.dotGeneral dot_S500000x8x8_S8x8_S500000x8x8_1_1_02_0_n_n none (manySeries (steps w (shifted S)) 17)
      (series (start (shifted S)) 20)) transposes_S500000x8x8_S500000x8x8_0_2_1)

/-- The density at each weight. -/
def density (w : FVec F S500000 .f32) (S : FVec F S8x8 .f32) (α : FVec F S8 .f32) : FVec F S500000 .f32 :=
  Host.dotGeneral dot_S500000x8_S8_S500000_1_0_0_n_n_n none
    (Host.dotGeneral dot_S8_S500000x8x8_S500000x8_0_1_n_02_n_n none α (expm w S)) (exits S)

/-- The sum of the logarithms of the densities. -/
def total (w : FVec F S500000 .f32) (S : FVec F S8x8 .f32) (α : FVec F S8 .f32) : FVec F S_ .f32 :=
  Host.reduceAdd (Host.log (density w S α)) (constant S_ .f32 0x00000000#32) reducesTo_S500000_S_d0 h_S_

/-- Every execution ends with the result at `main_v197` and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v197)
          = total (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono ?_ (Value.run m ρ)
  intro r h c
  refine ⟨(h c).1.trans ?_, (h c).2⟩
  sl_kernel_rfl

end Cert.ReferenceIdeal.Model

end
-- ==== Proof.Math.Extended.lean ====
/-
  Small facts on extended reals: sums, maxima and logarithms of real numbers read as extended reals, the rearrangement
  that removes the padded weights again, and sums over a range cut into equal pieces.
-/
module

public import Idealize.ShloMosaic.PureOps.Ideal
public import Mathlib.Analysis.SpecialFunctions.Log.Basic

@[expose] public section

noncomputable section

open scoped BigOperators

namespace Cert.Math

open Idealize.ShloMosaic

/-- A sum of real numbers, taken in the extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum from `−∞` of real numbers that are at most `r`, one of them `r`. -/
theorem fold_max_coe {ι : Type} [Fintype ι] (f : ι → EReal) (r : ℝ) (hle : ∀ i, f i ≤ (r : EReal)) (i : ι) (hi : f i = (r : EReal)) :
    Finset.fold max ⊥ f Finset.univ = (r : EReal) :=
  le_antisymm ((Finset.fold_max_le _).mpr ⟨bot_le, fun i _ => hle i⟩)
    (hi ▸ (Finset.le_fold_max _).mpr (Or.inr ⟨i, Finset.mem_univ i, le_rfl⟩))

/-- The logarithm of `e^b · p`: of `p`, plus `b` (both `−∞` where `p` is not positive). -/
theorem log_exp_mul (b p : ℝ) : Ideal.log ((Real.exp b * p : ℝ) : EReal) = Ideal.log ((p : ℝ) : EReal) + (b : EReal) := by
  rw [Ideal.log_coe, Ideal.log_coe]
  by_cases hp : p ≤ 0
  · rw [if_pos hp, if_pos (mul_nonpos_of_nonneg_of_nonpos (Real.exp_pos b).le hp), EReal.bot_add]
  · have hp' : 0 < p := not_le.mp hp
    rw [if_neg hp, if_neg (not_le.mpr (mul_pos (Real.exp_pos b) hp')), Real.log_mul (Real.exp_pos b).ne' hp'.ne', Real.log_exp,
      ← EReal.coe_add, add_comm]

/-- The logarithm of a positive number is a real number. -/
theorem log_pos_coe {p : ℝ} (hp : 0 < p) : Ideal.log ((p : ℝ) : EReal) = (Real.log p : EReal) := by
  rw [Ideal.log_coe, if_neg (not_le.mpr hp)]

/-- A real number that is added first can be subtracted last. -/
theorem add_sub_sub (x : EReal) (a b : ℝ) : x + (a : EReal) - (b : EReal) - (a : EReal) = x + ((-b : ℝ) : EReal) := by
  rw [sub_eq_add_neg, sub_eq_add_neg, ← EReal.coe_neg, ← EReal.coe_neg, add_assoc, add_assoc, ← EReal.coe_add, ← EReal.coe_add]
  congr 2
  ring

/-- A sum over a range cut into `a` pieces of `b`. -/
theorem sum_range_mul {M : Type} [AddCommMonoid M] (f : ℕ → M) (a b : ℕ) :
    ∑ n ∈ Finset.range (a * b), f n = ∑ i ∈ Finset.range a, ∑ j ∈ Finset.range b, f (i * b + j) := by
  induction a with
  | zero => simp
  | succ a ih => rw [Nat.succ_mul, Finset.sum_range_add, ih, Finset.sum_range_succ]

/-- `n` equal real numbers, summed in the extended reals. -/
theorem sum_const_coe (n : ℕ) (r : ℝ) : ∑ _i ∈ Finset.range n, (r : EReal) = ((n * r : ℝ) : EReal) := by
  rw [sum_coe, Finset.sum_const, Finset.card_range, nsmul_eq_mul]

end Cert.Math

end
-- ==== Proof.Math.Positive.lean ====
/-
  The value of the kernel's polynomial at a padded weight is a positive real number.

  The kernel evaluates, for every weight, the polynomial whose coefficients are double sums of the numbers
  `v k = alpha · A^k · s` (`A = S + c I`). At a zero weight the two truncated series `T20(A W0)` and `T17(-A W0)`
  nearly cancel: all mixed terms of total degree 1 to 17 vanish, `v 0` is left, and the terms of degree 18 to 37 are
  small. This file states that with the bounds on `v` as hypotheses.
-/
module

public import Mathlib.Data.Real.Basic
public import Mathlib.Algebra.BigOperators.Intervals
public import Mathlib.Data.Nat.Factorial.BigOperators
public import Mathlib.Algebra.BigOperators.Field
public import Mathlib.Tactic.FieldSimp
public import Mathlib.Tactic.Linarith
public import Mathlib.Tactic.NormNum
public import Mathlib.Tactic.Ring
public import Mathlib.Tactic.Positivity

@[expose] public section

noncomputable section

open scoped BigOperators

namespace Cert.Math

/-- The kernel's polynomial in the distance `d` of a weight from the centre `x0`, for the numbers `v k = alpha·A^k·s`:
    the product of the series of `exp (A x0)` up to degree 20 and of `exp (A d)` up to degree 17, between `alpha` and `s`. -/
def poly (x0 : ℝ) (v : ℕ → ℝ) (d : ℝ) : ℝ :=
  ∑ m ∈ Finset.range 18, (∑ k ∈ Finset.range 21, x0 ^ k / (k.factorial : ℝ) * v (k + m)) / (m.factorial : ℝ) * d ^ m

/-- At `d = -x0` the double sum depends on the products `x0 ^ k * v k` alone. -/
theorem poly_neg (x0 : ℝ) (v : ℕ → ℝ) :
    poly x0 v (-x0) = ∑ m ∈ Finset.range 18, ∑ k ∈ Finset.range 21,
      (-1) ^ m / ((k.factorial : ℝ) * (m.factorial : ℝ)) * (x0 ^ (k + m) * v (k + m)) := by
  unfold poly
  refine Finset.sum_congr rfl fun m _ => ?_
  rw [Finset.sum_div, Finset.sum_mul]
  refine Finset.sum_congr rfl fun k _ => ?_
  have hk : (k.factorial : ℝ) ≠ 0 := by exact_mod_cast k.factorial_ne_zero
  have hm : (m.factorial : ℝ) ≠ 0 := by exact_mod_cast m.factorial_ne_zero
  rw [neg_pow x0 m, pow_add]
  field_simp

/-- The double sum of `poly_neg` is positive when `u 0` is at least a twelfth of a positive `B` and every later `u k`
    lies between 0 and `(23/5)^k B`. -/
theorem double_sum_pos (u : ℕ → ℝ) (B : ℝ) (hB : 0 < B) (h0 : B / 12 ≤ u 0) (hu : ∀ k, 0 ≤ u k)
    (hle : ∀ k, u k ≤ (23 / 5) ^ k * B) :
    0 < ∑ m ∈ Finset.range 18, ∑ k ∈ Finset.range 21,
      (-1) ^ m / ((k.factorial : ℝ) * (m.factorial : ℝ)) * u (k + m) := by
  have l := fun k => hu k
  have g := fun k => hle k
  simp only [Finset.sum_range_succ, Finset.sum_range_zero, Nat.factorial, Nat.reduceAdd, Nat.reduceMul, Nat.succ_eq_add_one]
  push_cast
  linarith [l 18, l 19, l 20, l 21, l 22, l 23, l 24, l 25, l 26, l 27, l 28, l 29, l 30, l 31, l 32, l 33, l 34, l 35, l 36, l 37,
    g 18, g 19, g 20, g 21, g 22, g 23, g 24, g 25, g 26, g 27, g 28, g 29, g 30, g 31, g 32, g 33, g 34, g 35, g 36, g 37]

/-- The polynomial at a zero weight is positive, from the bounds on the numbers `v`. -/
theorem poly_neg_pos (x0 c σ : ℝ) (v : ℕ → ℝ) (hx0 : 0 ≤ x0) (hc : 0 ≤ c) (hxc : x0 * c ≤ 23 / 5) (hσ : 0 < σ)
    (hv0 : σ / 4 ≤ v 0) (hv : ∀ k, 0 ≤ v k) (hle : ∀ k, v k ≤ c ^ k * (3 * σ)) : 0 < poly x0 v (-x0) := by
  rw [poly_neg]
  refine double_sum_pos (fun k => x0 ^ k * v k) (3 * σ) (by linarith) (by simp only [pow_zero, one_mul]; linarith)
    (fun k => mul_nonneg (pow_nonneg hx0 k) (hv k)) fun k => ?_
  calc x0 ^ k * v k ≤ x0 ^ k * (c ^ k * (3 * σ)) := mul_le_mul_of_nonneg_left (hle k) (pow_nonneg hx0 k)
    _ = (x0 * c) ^ k * (3 * σ) := by rw [mul_pow, mul_assoc]
    _ ≤ (23 / 5) ^ k * (3 * σ) :=
        mul_le_mul_of_nonneg_right (pow_le_pow_left₀ (mul_nonneg hx0 hc) hxc k) (by linarith)

end Cert.Math

end
-- ==== Proof.Math.PhaseType.lean ====
/-
  The real numbers that both programs compute, for a real matrix `S`, a real vector `α` and the number `c` added on the
  diagonal: with `A = S + c I` and the exit rates `s = −S·1`, the numbers `v k = α · A^k · s`. The kernel reaches them by
  powers of `P = I + S / c`, the reference by the partial sums of two matrix exponentials; both end in the polynomial
  `poly` of Positive.lean.
-/
module

public import proofs.«01_k».proof.Proof.Math.Positive
public import Mathlib.Data.Matrix.Mul
public import Mathlib.LinearAlgebra.Matrix.Notation
public import Mathlib.Data.Real.Basic

@[expose] public section

noncomputable section

open scoped BigOperators Matrix

namespace Cert.Math

/-- 8 × 8 real matrices and real vectors of length 8. -/
abbrev Mat := Matrix (Fin 8) (Fin 8) ℝ

variable (S : Mat) (α : Fin 8 → ℝ) (c : ℝ)

/-- The exit rates. -/
def exits : Fin 8 → ℝ := fun i => -∑ j, S i j

/-- The matrix with `c` added on the diagonal. -/
def shifted : Mat := S + c • (1 : Mat)

/-- The numbers `α · A^k · s`. -/
def moment (k : ℕ) : ℝ := α ⬝ᵥ (shifted S c ^ k *ᵥ exits S)

/-- The matrix whose powers the kernel takes. -/
def unif : Mat := 1 + c⁻¹ • S

/-- `c (I + S/c) = S + c I`. -/
theorem smul_unif (hc : c ≠ 0) : c • unif S c = shifted S c := by
  unfold unif shifted
  rw [smul_add, smul_smul, mul_inv_cancel₀ hc, one_smul, add_comm]

/-- The powers of `S + c I`. -/
theorem shifted_pow (hc : c ≠ 0) (k : ℕ) : shifted S c ^ k = c ^ k • unif S c ^ k := by
  rw [← smul_unif S c hc, smul_pow]

/-- The row of the kernel: `α` times the partial sum of `exp (x P)`. -/
def headRow (x : ℝ) : Fin 8 → ℝ := ∑ k ∈ Finset.range 21, (x ^ k / (k.factorial : ℝ)) • ((unif S c)ᵀ ^ k *ᵥ α)

/-- A power between two vectors, moved from one side to the other. -/
theorem transpose_pow_dot (P : Mat) (a b : Fin 8 → ℝ) (k : ℕ) : (Pᵀ ^ k *ᵥ a) ⬝ᵥ b = a ⬝ᵥ (P ^ k *ᵥ b) := by
  rw [← Matrix.transpose_pow, Matrix.mulVec_transpose, Matrix.dotProduct_mulVec]

/-- The kernel's coefficient of degree `m`. -/
theorem coefficient (hc : c ≠ 0) (x0 : ℝ) (m : ℕ) :
    headRow S α c (c * x0) ⬝ᵥ (unif S c ^ m *ᵥ exits S) * (1 / (m.factorial : ℝ)) * c ^ m
      = (∑ k ∈ Finset.range 21, x0 ^ k / (k.factorial : ℝ) * moment S α c (k + m)) / (m.factorial : ℝ) := by
  unfold headRow
  rw [sum_dotProduct, Finset.sum_mul, Finset.sum_mul, Finset.sum_div]
  refine Finset.sum_congr rfl fun k _ => ?_
  rw [smul_dotProduct, transpose_pow_dot, Matrix.mulVec_mulVec, ← pow_add]
  unfold moment
  rw [shifted_pow S c hc, Matrix.smul_mulVec, dotProduct_smul, smul_eq_mul, smul_eq_mul, mul_pow, pow_add c]
  ring

/-- The partial sum up to degree `n` of the exponential of a matrix. -/
def expSeries (X : Mat) (n : ℕ) : Mat := ∑ k ∈ Finset.range (n + 1), (1 / (k.factorial : ℝ)) • X ^ k

/-- The reference's two series between `α` and `s`. -/
theorem two_series (x0 d : ℝ) : α ⬝ᵥ ((expSeries (x0 • shifted S c) 20 * expSeries (d • shifted S c) 17) *ᵥ exits S)
    = poly x0 (moment S α c) d := by
  unfold expSeries poly
  rw [Matrix.mul_sum, Matrix.sum_mulVec, dotProduct_sum]
  refine Finset.sum_congr rfl fun m _ => ?_
  rw [Matrix.sum_mul, Matrix.sum_mulVec, dotProduct_sum, Finset.sum_div, Finset.sum_mul]
  refine Finset.sum_congr rfl fun k _ => ?_
  rw [smul_pow, smul_pow, Matrix.smul_mul, Matrix.smul_mul, Matrix.mul_smul, Matrix.mul_smul, ← pow_add]
  simp only [Matrix.smul_mulVec, dotProduct_smul, smul_eq_mul]
  unfold moment
  ring

end Cert.Math

end
-- ==== Proof.Reference.Values.lean ====
/-
  The reference over the extended reals, at real inputs: each printed step is the step of linear algebra that it stands
  for, so the result is the sum of the logarithms of `e^(−c w)` times the polynomial.
-/
module

public import proofs.«01_k».proof.Proof.Reference.Model
public import proofs.«01_k».proof.Proof.Math.Extended
public import proofs.«01_k».proof.Proof.Math.PhaseType
public import Idealize.ShloMosaic.Lib.Pointwise

@[expose] public section

noncomputable section

namespace Cert.ReferenceIdeal.Model

open Idealize.ShloMosaic Cert.ReferenceIdeal Cert.ReferenceIdeal.Gen Cert.Math
open scoped Matrix BigOperators

/-- A real matrix as an array of extended reals. -/
def mat (M : Mat) : FVec Ideal S8x8 .f32 := fun i => ((M (i 0) (i 1) : ℝ) : EReal)

/-- A real vector as an array. -/
def start8 (v : Fin 8 → ℝ) : FVec Ideal S8 .f32 := fun i => ((v (i 0) : ℝ) : EReal)

/-- One real number for each weight, as an array. -/
def vec (w : Fin 500000 → ℝ) : FVec Ideal S500000 .f32 := fun i => ((w (i 0) : ℝ) : EReal)

/-- One real matrix for each weight, as an array. -/
def mats (M : Fin 500000 → Mat) : FVec Ideal S500000x8x8 .f32 := fun i => ((M (i 0) (i 1) (i 2) : ℝ) : EReal)

/-- The centre of the series. -/
def W0 : ℝ := 12792627 / 8388608

/-- The word of the centre of the series. -/
theorem centre_eq : Ideal.ofBits .f32 0x3FC33333#32 = ((W0 : ℝ) : EReal) := by
  unfold W0
  simp [Ideal.ofBits, Ideal.ieee, -EReal.coe_mul]; norm_num

/-- The words of the divisors 1 to 20. -/
theorem word_eq (k : ℕ) (hk : k < 20) : Ideal.ofBits .f32 (word (k + 1)) = (((k + 1 : ℕ) : ℝ) : EReal) := by
  interval_cases k <;> (simp [word, Ideal.ofBits, Ideal.ieee, -EReal.coe_mul]; try norm_num)

/-! ## The matrices -/

/-- The identity matrix. -/
theorem eye_mat : (eye : FVec Ideal S8x8 .f32) = mat 1 := by
  funext j
  idx_vars j
  have h : ∀ a b : Fin 8, (IntOp.cmpi CmpIPredicate.eq (IntOp.addi (BitVec.ofNat 32 ↑a) 0#32) (BitVec.ofNat 32 ↑b)).toNat
      = if a = b then 1 else 0 := by decide
  unfold eye
  pointwise
  show ((((IntOp.cmpi CmpIPredicate.eq (IntOp.addi (BitVec.ofNat 32 ↑j0) 0#32) (BitVec.ofNat 32 ↑j1)).toNat : ℝ)) : EReal) = _
  rw [h, show mat 1 (ix2 j0 j1) = (((1 : Mat) j0 j1 : ℝ) : EReal) from rfl, Matrix.one_apply]
  split <;> simp

/-- The exit rates. -/
theorem exits_eq (S : Mat) : Model.exits (mat S) = start8 (Math.exits S) := by
  funext j
  idx_vars j
  unfold Model.exits
  pointwise [mat, start8]
  rw [sum_coe, ← EReal.coe_neg]
  rfl

/-- The largest total rate. -/
theorem rate_eq (S : Mat) (c : ℝ) (hle : ∀ i, -S i i ≤ c) (hc : ∃ i, -S i i = c) : rate (mat S) = fun _ => ((c : ℝ) : EReal) := by
  have h : ∀ i : Fin 8, -∑ x, ((S i x : ℝ) : EReal) * (((1 : Mat) i x : ℝ) : EReal) = ((-S i i : ℝ) : EReal) := by
    intro i
    simp only [← EReal.coe_mul, sum_coe, Matrix.one_apply, mul_ite, mul_one, mul_zero, Finset.sum_ite_eq,
      Finset.mem_univ, if_true, EReal.coe_neg]
  funext j
  unfold rate
  rw [eye_mat]
  pointwise [mat]
  obtain ⟨i, hi⟩ := hc
  rw [show Ideal.ofBits FTy.f32 4286578688#32 = (⊥ : EReal) from by simp [Ideal.ofBits, Ideal.ieee]]
  exact fold_max_coe _ c (fun x => (h x).trans_le (EReal.coe_le_coe_iff.mpr (hle x))) i ((h i).trans (by rw [hi]))

/-- An entry of a product, over the number `k + 1`. -/
theorem quotient_eq (f g : Fin 8 → ℝ) (k : ℕ) (hk : k < 20) :
    Ideal.div (∑ x, ((f x : ℝ) : EReal) * ((g x : ℝ) : EReal)) (Ideal.ofBits .f32 (word (k + 1)))
      = ((1 / ((k + 1 : ℕ) : ℝ) * ∑ x, f x * g x : ℝ) : EReal) := by
  simp only [← EReal.coe_mul, sum_coe]
  rw [word_eq k hk, Ideal.div_coe (Nat.cast_ne_zero.mpr (Nat.succ_ne_zero k)), ← EReal.coe_mul, mul_comm]

/-- A term of the series. -/
theorem term_eq (X : Mat) (k : ℕ) (hk : k ≤ 20) : term (mat X) k = mat ((1 / (k.factorial : ℝ)) • X ^ k) := by
  induction k with
  | zero => simpa [term] using eye_mat
  | succ k ih =>
    have step : ∀ M : Mat, Host.divf (Host.dotGeneral dot_S8x8_S8x8_S8x8_1_0_0_1_n_n none (mat M) (mat X))
        (broadcastInDim S8x8 ![] bcast_S_S8x8 (constant (F := Ideal) S_ .f32 (word (k + 1)))) = mat ((1 / ((k + 1 : ℕ) : ℝ)) • (M * X)) := by
      intro M
      funext j
      idx_vars j
      pointwise [mat]
      exact quotient_eq _ _ k (by omega)
    show Host.divf (Host.dotGeneral _ none (term (mat X) k) (mat X)) _ = _
    rw [ih (by omega), step]
    congr 1
    rw [smul_mul_assoc, smul_smul, ← pow_succ, Nat.factorial_succ]
    congr 1
    push_cast
    field_simp

/-- The series up to degree `n`. -/
theorem series_eq (X : Mat) (n : ℕ) (hn : n ≤ 20) : series (mat X) n = mat (expSeries X n) := by
  induction n with
  | zero => simpa [series, expSeries] using eye_mat
  | succ n ih =>
    show addf (series (mat X) n) (term (mat X) (n + 1)) = _
    rw [ih (by omega), term_eq X (n + 1) hn]
    funext j
    show _ = (((expSeries X (n + 1)) (j 0) (j 1) : ℝ) : EReal)
    rw [show expSeries X (n + 1) = expSeries X n + (1 / ((n + 1).factorial : ℝ)) • X ^ (n + 1) from Finset.sum_range_succ _ _]
    exact (EReal.coe_add _ _).symm

/-- The identity matrix for each weight. -/
theorem eyes_mats : (eyes : FVec Ideal S500000x8x8 .f32) = mats fun _ => 1 := by
  funext j
  idx_vars j
  unfold eyes
  rw [eye_mat]
  pointwise [mat, mats]
  rfl

/-- A term of the series for each weight. -/
theorem terms_eq (X : Fin 500000 → Mat) (k : ℕ) (hk : k ≤ 20) :
    terms (mats X) k = mats fun n => (1 / (k.factorial : ℝ)) • X n ^ k := by
  induction k with
  | zero => simpa [terms] using eyes_mats
  | succ k ih =>
    have step : ∀ M : Fin 500000 → Mat, Host.divf (Host.dotGeneral dot_S500000x8x8_S500000x8x8_S500000x8x8_2_1_1_2_0_0 none (mats M) (mats X))
        (broadcastInDim S500000x8x8 ![] bcast_S_S500000x8x8 (constant (F := Ideal) S_ .f32 (word (k + 1))))
        = mats fun n => (1 / ((k + 1 : ℕ) : ℝ)) • (M n * X n) := by
      intro M
      funext j
      idx_vars j
      pointwise [mats]
      exact quotient_eq _ _ k (by omega)
    show Host.divf (Host.dotGeneral _ none (terms (mats X) k) (mats X)) _ = _
    rw [ih (by omega), step]
    congr 1
    funext n
    rw [smul_mul_assoc, smul_smul, ← pow_succ, Nat.factorial_succ]
    congr 1
    push_cast
    field_simp

/-- The series up to degree `k` for each weight. -/
theorem manySeries_eq (X : Fin 500000 → Mat) (k : ℕ) (hk : k ≤ 20) : manySeries (mats X) k = mats fun n => expSeries (X n) k := by
  induction k with
  | zero => simpa [manySeries, expSeries] using eyes_mats
  | succ k ih =>
    show addf (manySeries (mats X) k) (terms (mats X) (k + 1)) = _
    rw [ih (by omega), terms_eq X (k + 1) hk]
    funext j
    show _ = (((expSeries (X (j 0)) (k + 1)) (j 1) (j 2) : ℝ) : EReal)
    rw [show expSeries (X (j 0)) (k + 1) = expSeries (X (j 0)) k + (1 / ((k + 1).factorial : ℝ)) • X (j 0) ^ (k + 1) from
      Finset.sum_range_succ _ _]
    exact (EReal.coe_add _ _).symm

/-! ## The density -/

/-- The matrix `(w n − W0) A` for each weight. -/
theorem steps_eq (w : Fin 500000 → ℝ) (A : Mat) : steps (vec w) (mat A) = mats fun n => (w n - W0) • A := by
  funext j
  idx_vars j
  unfold steps
  pointwise [vec, mat, mats]
  rw [centre_eq, ← EReal.coe_sub, ← EReal.coe_mul, mul_comm]
  rfl

/-- The matrix `W0 A`. -/
theorem start_eq (A : Mat) : start (mat A) = mat (W0 • A) := by
  funext j
  idx_vars j
  unfold start
  pointwise [mat]
  rw [centre_eq, ← EReal.coe_mul, mul_comm]
  rfl

/-- The matrix `S + c I`. -/
theorem shifted_eq (S : Mat) (c : ℝ) (hle : ∀ i, -S i i ≤ c) (hc : ∃ i, -S i i = c) : Model.shifted (mat S) = mat (Math.shifted S c) := by
  unfold Model.shifted
  rw [rate_eq S c hle hc, eye_mat]
  funext j
  idx_vars j
  pointwise [mat]
  rw [← EReal.coe_mul, ← EReal.coe_add]
  rfl

/-- The factor `e^(−c w n)`. -/
theorem decay_eq (w : Fin 500000 → ℝ) (c : ℝ) :
    decay (vec w) (fun _ => ((c : ℝ) : EReal)) = fun i => ((Real.exp (-(c * w (i 0))) : ℝ) : EReal) := by
  funext j
  idx_vars j
  unfold decay
  pointwise [vec]
  rw [← EReal.coe_neg, ← EReal.coe_mul, Ideal.exp_coe, neg_mul]

/-- The transposed product of the two series. -/
theorem both_eq (X : Fin 500000 → Mat) (Y : Mat) :
    transpose S500000x8x8 [0, 2, 1] (Host.dotGeneral dot_S500000x8x8_S8x8_S500000x8x8_1_1_02_0_n_n none (mats X) (mat Y))
      transposes_S500000x8x8_S500000x8x8_0_2_1 = mats fun n => Y * X n := by
  funext j
  idx_vars j
  pointwise [mat, mats]
  simp only [← EReal.coe_mul, sum_coe, Matrix.mul_apply, mul_comm]

/-- The matrix exponential: the factor and the product of the two series. -/
theorem expm_eq (w : Fin 500000 → ℝ) (S : Mat) (c : ℝ) (hle : ∀ i, -S i i ≤ c) (hc : ∃ i, -S i i = c) :
    expm (vec w) (mat S) = mats fun n => Real.exp (-(c * w n)) •
      (expSeries (W0 • Math.shifted S c) 20 * expSeries ((w n - W0) • Math.shifted S c) 17) := by
  unfold expm
  rw [rate_eq S c hle hc, shifted_eq S c hle hc, start_eq, steps_eq, manySeries_eq _ 17 (by omega), series_eq _ 20 le_rfl, both_eq, decay_eq]
  funext j
  exact (EReal.coe_mul _ _).symm

/-- A multiple of a matrix between two vectors, written out. -/
theorem weigh (α s : Fin 8 → ℝ) (E : Mat) (r : ℝ) : ∑ i, (∑ k, α k * (r • E) k i) * s i = r * (α ⬝ᵥ (E *ᵥ s)) := by
  rw [← smul_eq_mul, ← dotProduct_smul, ← Matrix.smul_mulVec, Matrix.dotProduct_mulVec]
  rfl

/-- The density at each weight. -/
theorem density_eq (w : Fin 500000 → ℝ) (S : Mat) (α : Fin 8 → ℝ) (c : ℝ) (hle : ∀ i, -S i i ≤ c) (hc : ∃ i, -S i i = c) :
    density (vec w) (mat S) (start8 α) = vec fun n => Real.exp (-(c * w n)) * poly W0 (moment S α c) (w n - W0) := by
  unfold density
  rw [expm_eq w S c hle hc, exits_eq]
  funext j
  idx_vars j
  pointwise [mats, vec, start8]
  simp only [← EReal.coe_mul, sum_coe]
  refine congrArg _ ?_
  have e := two_series S α c W0 (w j0 - W0)
  rw [← e]
  exact weigh α (Math.exits S) _ _

/-- The reference's result: the sum over the weights of the polynomial's logarithm, minus `c` times the sum of the weights. -/
theorem total_eq (w : Fin 500000 → ℝ) (S : Mat) (α : Fin 8 → ℝ) (c : ℝ) (hle : ∀ i, -S i i ≤ c) (hc : ∃ i, -S i i = c) :
    total (vec w) (mat S) (start8 α) = fun _ =>
      (∑ n, Ideal.log ((poly W0 (moment S α c) (w n - W0) : ℝ) : EReal)) + ((-(c * ∑ n, w n) : ℝ) : EReal) := by
  unfold total
  rw [density_eq w S α c hle hc]
  funext j
  pointwise [vec]
  simp only [log_exp_mul]
  rw [Finset.sum_add_distrib, sum_coe, Finset.sum_neg_distrib, Finset.mul_sum]

end Cert.ReferenceIdeal.Model

end
-- ==== Proof.Math.Bounds.lean ====
/-
  The bounds of a phase-type generator: off the diagonal nothing negative, exit rates of at least 1/4, total rates of at
  most 3, an initial vector that is neither negative nor zero. They give the hypotheses of Positive.lean, so the
  polynomial is positive at a zero weight.
-/
module

public import proofs.«01_k».proof.Proof.Math.PhaseType
public import Mathlib.Algebra.Order.BigOperators.Group.Finset
public import Mathlib.Algebra.Order.BigOperators.Ring.Finset

@[expose] public section

noncomputable section

open scoped BigOperators Matrix

namespace Cert.Math

/-- The real inputs of the claim: a generator with its largest total rate `c`, and an initial vector. -/
structure PhaseType (S : Mat) (α : Fin 8 → ℝ) (c : ℝ) : Prop where
  off : ∀ i j, i ≠ j → 0 ≤ S i j
  exit : ∀ i, 1 / 4 ≤ exits S i
  diag : ∀ i, -S i i ≤ c
  attained : ∃ i, -S i i = c
  top : c ≤ 3
  start : ∀ i, 0 ≤ α i
  mass : 0 < ∑ i, α i

variable {S : Mat} {α : Fin 8 → ℝ} {c : ℝ}

namespace PhaseType

/-- An exit rate is at most `c`. -/
theorem exits_le (h : PhaseType S α c) (i : Fin 8) : exits S i ≤ c := by
  refine le_trans ?_ (h.diag i)
  unfold exits
  refine neg_le_neg ?_
  rw [← Finset.add_sum_erase Finset.univ (fun j => S i j) (Finset.mem_univ i)]
  have : 0 ≤ ∑ j ∈ Finset.univ.erase i, S i j :=
    Finset.sum_nonneg fun j hj => h.off i j (Finset.ne_of_mem_erase hj).symm
  linarith

/-- The largest total rate is positive. -/
theorem rate_pos (h : PhaseType S α c) : 0 < c := by
  have := h.exit 0
  have := h.exits_le 0
  linarith

/-- No entry of `A = S + c I` is negative. -/
theorem shifted_nonneg (h : PhaseType S α c) (i j : Fin 8) : 0 ≤ shifted S c i j := by
  unfold shifted
  rw [Matrix.add_apply, Matrix.smul_apply, smul_eq_mul]
  by_cases hij : i = j
  · subst hij
    rw [Matrix.one_apply_eq]
    linarith [h.diag i]
  · rw [Matrix.one_apply_ne hij, mul_zero, add_zero]
    exact h.off i j hij

/-- The rows of `A` sum to at most `c`. -/
theorem shifted_row_sum (h : PhaseType S α c) (i : Fin 8) : ∑ j, shifted S c i j ≤ c := by
  have e : ∑ j, shifted S c i j = c - exits S i := by
    unfold shifted exits
    simp only [Matrix.add_apply, Matrix.smul_apply, smul_eq_mul, Finset.sum_add_distrib, ← Finset.mul_sum, Matrix.one_apply,
      Finset.sum_ite_eq, Finset.mem_univ, if_true]
    ring
  linarith [h.exit i]

/-- The entries of `A^k s` lie between 0 and `3 c^k`. -/
theorem power_bounds (h : PhaseType S α c) (k : ℕ) (i : Fin 8) :
    0 ≤ (shifted S c ^ k *ᵥ exits S) i ∧ (shifted S c ^ k *ᵥ exits S) i ≤ c ^ k * 3 := by
  induction k generalizing i with
  | zero =>
    rw [pow_zero, Matrix.one_mulVec, pow_zero, one_mul]
    exact ⟨by linarith [h.exit i], (h.exits_le i).trans h.top⟩
  | succ k ih =>
    rw [pow_succ', ← Matrix.mulVec_mulVec, show (shifted S c *ᵥ (shifted S c ^ k *ᵥ exits S)) i
      = ∑ j, shifted S c i j * (shifted S c ^ k *ᵥ exits S) j from rfl]
    refine ⟨Finset.sum_nonneg fun j _ => mul_nonneg (h.shifted_nonneg i j) (ih j).1, ?_⟩
    calc ∑ j, shifted S c i j * (shifted S c ^ k *ᵥ exits S) j
        ≤ ∑ j, shifted S c i j * (c ^ k * 3) :=
          Finset.sum_le_sum fun j _ => mul_le_mul_of_nonneg_left (ih j).2 (h.shifted_nonneg i j)
      _ = (∑ j, shifted S c i j) * (c ^ k * 3) := (Finset.sum_mul ..).symm
      _ ≤ c * (c ^ k * 3) := mul_le_mul_of_nonneg_right (h.shifted_row_sum i)
          (mul_nonneg (pow_nonneg h.rate_pos.le k) (by norm_num))
      _ = c ^ (k + 1) * 3 := by ring

/-- A moment, as a sum over the phases. -/
theorem moment_eq (S : Mat) (α : Fin 8 → ℝ) (c : ℝ) (k : ℕ) :
    moment S α c k = ∑ i, α i * (shifted S c ^ k *ᵥ exits S) i := rfl

/-- The polynomial is positive at a zero weight. -/
theorem poly_pos (h : PhaseType S α c) (x0 : ℝ) (hx0 : 0 ≤ x0) (hx : x0 * 3 ≤ 23 / 5) :
    0 < poly x0 (moment S α c) (-x0) := by
  refine poly_neg_pos x0 c (∑ i, α i) (moment S α c) hx0 h.rate_pos.le
    ((mul_le_mul_of_nonneg_left h.top hx0).trans hx) h.mass ?_ (fun k => ?_) (fun k => ?_)
  · unfold moment
    rw [pow_zero, Matrix.one_mulVec, Finset.sum_div]
    refine Finset.sum_le_sum fun i _ => ?_
    rw [div_eq_mul_one_div]
    exact mul_le_mul_of_nonneg_left (h.exit i) (h.start i)
  · rw [moment_eq]
    exact Finset.sum_nonneg fun i _ => mul_nonneg (h.start i) (h.power_bounds k i).1
  · rw [moment_eq]
    calc ∑ i, α i * (shifted S c ^ k *ᵥ exits S) i ≤ ∑ i, α i * (c ^ k * 3) :=
          Finset.sum_le_sum fun i _ => mul_le_mul_of_nonneg_left (h.power_bounds k i).2 (h.start i)
      _ = c ^ k * (3 * ∑ i, α i) := by rw [← Finset.sum_mul]; ring

end PhaseType

end Cert.Math

end
-- ==== Proof.Pre.Reals.lean ====
/-
  What the precondition says of extended reals: the arrays hold real numbers, and they are a phase-type distribution
  within the precondition's bounds.
-/
module

public import proofs.«01_k».proof.Pre_phase_type
public import proofs.«01_k».proof.Proof.Reference.Values
public import proofs.«01_k».proof.Proof.Math.Bounds
public import Idealize.ShloMosaic.Lib.ReduceAll

@[expose] public section

noncomputable section

namespace Cert.Pre_phase_type.Gen

open Idealize.ShloMosaic Cert.Pre_phase_type

/-- A number is broadcast to a matrix. -/
theorem bcast_S_S8x8 : S_.BroadcastsInDim S8x8 (![] : Fin 0 → Fin S8x8.rank) := by decide
/-- A number is broadcast to the weights. -/
theorem bcast_S_S500000 : S_.BroadcastsInDim S500000 (![] : Fin 0 → Fin S500000.rank) := by decide
/-- The weights reduce to a number. -/
theorem reducesTo_S500000_S_d0 : S500000.ReducesTo [0] S_ := by decide
/-- A number has one element. -/
theorem h_S_ : 0 < S_.numel := by decide
/-- A matrix reduces to a number. -/
theorem reducesTo_S8x8_S_d0_1 : S8x8.ReducesTo [0, 1] S_ := by decide
/-- A matrix reduces to its rows. -/
theorem reducesTo_S8x8_S8_d1 : S8x8.ReducesTo [1] S8 := by decide
/-- A number is broadcast to a vector. -/
theorem bcast_S_S8 : S_.BroadcastsInDim S8 (![] : Fin 0 → Fin S8.rank) := by decide
/-- A vector reduces to a number. -/
theorem reducesTo_S8_S_d0 : S8.ReducesTo [0] S_ := by decide

/-- The precondition's side conditions. -/
instance facts : Cert.Pre_phase_type.Facts where
  bcast_S_S8x8 := bcast_S_S8x8
  bcast_S_S500000 := bcast_S_S500000
  reducesTo_S500000_S_d0 := reducesTo_S500000_S_d0
  h_S_ := h_S_
  reducesTo_S8x8_S_d0_1 := reducesTo_S8x8_S_d0_1
  reducesTo_S8x8_S8_d1 := reducesTo_S8x8_S8_d1
  bcast_S_S8 := bcast_S_S8
  reducesTo_S8_S_d0 := reducesTo_S8_S_d0

end Cert.Pre_phase_type.Gen

namespace Cert.Pre_phase_type

open Idealize.ShloMosaic Cert.Math
open scoped BigOperators

/-- A word of one bit that says whether a proposition holds. -/
theorem of_bool (p : Prop) [Decidable p] (h : BitVec.ofBool (decide p) = 1#1) : p := by
  by_contra hp
  simp [hp] at h

section

variable {s : Shape} {x y : FVec Ideal s .f32} {i : s.Idx}

/-- A `>` that holds. -/
theorem of_gt (h : cmpf .ogt x y i = 1#1) : y i < x i := of_bool _ h
/-- A `≥` that holds. -/
theorem of_ge (h : cmpf .oge x y i = 1#1) : y i ≤ x i := of_bool _ h
/-- A `<` that holds. -/
theorem of_lt (h : cmpf .olt x y i = 1#1) : x i < y i := of_bool _ h
/-- A `≤` that holds. -/
theorem of_le (h : cmpf .ole x y i = 1#1) : x i ≤ y i := of_bool _ h

end

/-! ## The words of the conditions -/

/-- The word of `+∞`. -/
theorem word_top : Ideal.ofBits .f32 0x7F800000#32 = ⊤ := by simp [Ideal.ofBits, Ideal.ieee]
/-- The word of `−∞`. -/
theorem word_bot : Ideal.ofBits .f32 0xFF800000#32 = ⊥ := by simp [Ideal.ofBits, Ideal.ieee]
/-- The word of 1/4. -/
theorem word_quarter : Ideal.ofBits .f32 0x3E800000#32 = ((1 / 4 : ℝ) : EReal) := by
  simp [Ideal.ofBits, Ideal.ieee, -EReal.coe_mul]; norm_num
/-- The word of 3. -/
theorem word_three : Ideal.ofBits .f32 0x40400000#32 = ((3 : ℝ) : EReal) := by
  simp [Ideal.ofBits, Ideal.ieee, -EReal.coe_mul]; norm_num

/-- The precondition's identity matrix. -/
theorem ident : (uitofp .f32 (cmpi .eq (addi (iotaInDim S8x8 32 0) (broadcastInDim S8x8 ![] Facts.bcast_S_S8x8 (constantI S_ 32 0#32)))
    (iotaInDim S8x8 32 1)) : FVec Ideal S8x8 .f32) = ReferenceIdeal.Model.mat 1 := ReferenceIdeal.Model.eye_mat

/-- The precondition, condition by condition. -/
theorem conditions (w : FVec Ideal S500000 .f32) (S : FVec Ideal S8x8 .f32) (α : FVec Ideal S8 .f32) (h : fn w S α = fun _ => 1#1) :
    (∀ n : Fin 500000, ⊥ < w (ix1 n) ∧ w (ix1 n) < ⊤)
      ∧ (∀ i j : Fin 8, 0 ≤ S (ix2 i j) * (1 - (((1 : Mat) i j : ℝ) : EReal)))
      ∧ (∀ i : Fin 8, ((1 / 4 : ℝ) : EReal) ≤ -∑ j : Fin 8, S (ix2 i j))
      ∧ (∀ i : Fin 8, -(∑ j : Fin 8, S (ix2 i j) * (((1 : Mat) i j : ℝ) : EReal)) ≤ ((3 : ℝ) : EReal))
      ∧ (∀ i : Fin 8, 0 ≤ α (ix1 i) ∧ α (ix1 i) < ⊤)
      ∧ 0 < ∑ i : Fin 8, α (ix1 i) := by
  have e := congrFun h (fun a => a.elim0)
  unfold fn fn_part1 fn_part2 at e
  dsimp only [andi] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  have f1 := fun i => IntOp.andi_eq_one.1 (Host.reduce_andi_all _ _ _ _ _ e1 i)
  have f2 := Host.reduce_andi_all _ _ _ _ _ e2
  have f3 := Host.reduce_andi_all _ _ _ _ _ e3
  have f4 := Host.reduce_andi_all _ _ _ _ _ e4
  have f5 := fun i => IntOp.andi_eq_one.1 (Host.reduce_andi_all _ _ _ _ _ e5 i)
  rw [ident] at f2 f4
  refine ⟨fun n => ⟨?_, ?_⟩, fun i j => ?_, fun i => ?_, fun i => ?_, fun i => ⟨?_, ?_⟩, ?_⟩
  · refine Eq.trans_lt ?_ (of_gt (f1 (ix1 n)).1)
    pointwise
    exact word_bot.symm
  · refine (of_lt (f1 (ix1 n)).2).trans_eq ?_
    pointwise
    exact word_top
  · refine Eq.trans_le ?_ ((of_ge (f2 (ix2 i j))).trans_eq ?_)
    · pointwise
    · pointwise [ReferenceIdeal.Model.mat]
      rfl
  · refine Eq.trans_le ?_ ((of_ge (f3 (ix1 i))).trans_eq ?_)
    · pointwise
      exact word_quarter.symm
    · pointwise
  · refine Eq.trans_le ?_ ((of_le (f4 (ix1 i))).trans_eq ?_)
    · pointwise [ReferenceIdeal.Model.mat]
      rfl
    · pointwise
      exact word_three
  · refine Eq.trans_le ?_ (of_ge (f5 (ix1 i)).1)
    pointwise
  · refine (of_lt (f5 (ix1 i)).2).trans_eq ?_
    pointwise
    exact word_top
  · refine Eq.trans_lt ?_ ((of_gt e6).trans_eq ?_)
    · pointwise
    · pointwise

/-- Of a finite sum none of whose terms is `−∞` and that is not `+∞`, no term is `+∞`. -/
theorem term_ne_top (f : Fin 8 → EReal) (hf : ∀ i, f i ≠ ⊥) (hs : ∑ i, f i ≠ ⊤) (k : Fin 8) : f k ≠ ⊤ := by
  intro hk
  refine hs ?_
  rw [← Finset.add_sum_erase Finset.univ f (Finset.mem_univ k), hk]
  refine EReal.top_add_of_ne_bot ?_
  exact Finset.sum_induction f (· ≠ ⊥) (fun a b ha hb => EReal.add_ne_bot_iff.mpr ⟨ha, hb⟩) EReal.zero_ne_bot fun i _ => hf i

/-- Inputs that meet the precondition are real, and a phase-type distribution. -/
theorem reals (w : FVec Ideal S500000 .f32) (S : FVec Ideal S8x8 .f32) (α : FVec Ideal S8 .f32) (h : fn w S α = fun _ => 1#1) :
    ∃ (w' : Fin 500000 → ℝ) (S' : Mat) (α' : Fin 8 → ℝ) (c : ℝ), w = ReferenceIdeal.Model.vec w' ∧ S = ReferenceIdeal.Model.mat S'
      ∧ α = ReferenceIdeal.Model.start8 α' ∧ PhaseType S' α' c := by
  obtain ⟨hw, hoff, hexit, hdiag, hα, hmass⟩ := conditions w S α h
  have hoff' : ∀ i j : Fin 8, i ≠ j → 0 ≤ S (ix2 i j) := by
    intro i j hij
    have := hoff i j
    rwa [Matrix.one_apply_ne hij, EReal.coe_zero, sub_zero, mul_one] at this
  have hdiag' : ∀ i : Fin 8, -S (ix2 i i) ≤ ((3 : ℝ) : EReal) := by
    intro i
    have := hdiag i
    rwa [Finset.sum_eq_single i (fun j _ hj => by rw [Matrix.one_apply_ne hj.symm, EReal.coe_zero, mul_zero])
      (fun hi => absurd (Finset.mem_univ i) hi), Matrix.one_apply_eq, EReal.coe_one, mul_one] at this
  have hbot : ∀ i j : Fin 8, S (ix2 i j) ≠ ⊥ := by
    intro i j e
    by_cases hij : i = j
    · subst hij
      have := hdiag' i
      rw [e, EReal.neg_bot, top_le_iff] at this
      exact EReal.coe_ne_top _ this
    · have := hoff' i j hij
      rw [e] at this
      exact absurd this (not_le.mpr EReal.bot_lt_zero)
  have htop : ∀ i j : Fin 8, S (ix2 i j) ≠ ⊤ := by
    intro i
    refine term_ne_top (fun j => S (ix2 i j)) (hbot i) fun e => ?_
    have := hexit i
    rw [e, EReal.neg_top, le_bot_iff] at this
    exact EReal.coe_ne_bot _ this
  have hS : ∀ i j : Fin 8, ((S (ix2 i j)).toReal : EReal) = S (ix2 i j) := fun i j => EReal.coe_toReal (htop i j) (hbot i j)
  have hα' : ∀ i : Fin 8, ((α (ix1 i)).toReal : EReal) = α (ix1 i) := fun i =>
    EReal.coe_toReal (hα i).2.ne (fun e => by
      have := (hα i).1
      rw [e] at this
      exact absurd this (not_le.mpr EReal.bot_lt_zero))
  have hw' : ∀ n : Fin 500000, ((w (ix1 n)).toReal : EReal) = w (ix1 n) := fun n =>
    EReal.coe_toReal (hw n).2.ne (hw n).1.ne'
  obtain ⟨k, _, hk⟩ := Finset.exists_max_image Finset.univ (fun i : Fin 8 => -(S (ix2 i i)).toReal) ⟨0, Finset.mem_univ 0⟩
  refine ⟨fun n => (w (ix1 n)).toReal, fun i j => (S (ix2 i j)).toReal, fun i => (α (ix1 i)).toReal, -(S (ix2 k k)).toReal,
    ?_, ?_, ?_, ?_⟩
  · funext j
    idx_vars j
    exact (hw' _).symm
  · funext j
    idx_vars j
    exact (hS _ _).symm
  · funext j
    idx_vars j
    exact (hα' _).symm
  · refine ⟨fun i j hij => ?_, fun i => ?_, fun i => hk i (Finset.mem_univ i), ⟨k, rfl⟩, ?_, fun i => ?_, ?_⟩
    · rw [← EReal.coe_le_coe_iff, hS]
      exact hoff' i j hij
    · have := hexit i
      rw [← EReal.coe_le_coe_iff]
      refine this.trans_eq ?_
      rw [← Finset.sum_congr rfl fun j _ => hS i j, sum_coe, ← EReal.coe_neg]
      rfl
    · rw [← EReal.coe_le_coe_iff, EReal.coe_neg, hS]
      exact hdiag' k
    · rw [← EReal.coe_le_coe_iff, hα']
      exact (hα i).1
    · rw [← EReal.coe_lt_coe_iff, ← sum_coe, Finset.sum_congr rfl fun i _ => hα' i]
      exact hmass

end Cert.Pre_phase_type

end
-- ==== Proof.Kernel.Values.lean ====
/-
  The body's steps over the extended reals, at real matrices and vectors: each printed step is the step of linear algebra
  that it stands for.
-/
module

public import proofs.«01_k».proof.Proof.Kernel.Model
public import proofs.«01_k».proof.Proof.Math.Extended
public import proofs.«01_k».proof.Proof.Math.PhaseType
public import Idealize.ShloMosaic.Lib.Pointwise

@[expose] public section

noncomputable section

namespace Cert.KernelIdeal.Model

open Idealize.ShloMosaic Cert.KernelIdeal Cert.KernelIdeal.Gen Cert.Math
open scoped Matrix

/-- A real matrix as a block of extended reals. -/
def mat (M : Mat) : FVec Ideal S8x8 .f32 := fun i => ((M (i 0) (i 1) : ℝ) : EReal)

/-- A real vector as a row. -/
def row (v : Fin 8 → ℝ) : FVec Ideal S1x8 .f32 := fun i => ((v (i 1) : ℝ) : EReal)

/-- A real vector as a column. -/
def col (v : Fin 8 → ℝ) : FVec Ideal S8x1 .f32 := fun i => ((v (i 0) : ℝ) : EReal)

/-- A real number as a 1 × 1 block. -/
def one (x : ℝ) : FVec Ideal S1x1 .f32 := fun _ => (x : EReal)

/-! ## Matrices against vectors -/

/-- A matrix against a row, as a column. -/
theorem toCol_mat (M : Mat) (v : Fin 8 → ℝ) : toCol (mat M) (row v) = col (M *ᵥ v) := by
  funext j
  idx_vars j
  unfold toCol
  pointwise [mat, row, col]
  simp only [← EReal.coe_mul, sum_coe]
  rfl

/-- A column against a matrix, as a row. -/
theorem toRow_mat (M : Mat) (v : Fin 8 → ℝ) : toRow (mat M) (col v) = row (v ᵥ* M) := by
  funext j
  idx_vars j
  unfold toRow
  pointwise [mat, row, col]
  simp only [← EReal.coe_mul, sum_coe, Matrix.vecMul, dotProduct, mul_comm]

/-- A column against a transposed matrix, as a row. -/
theorem toRow_transpose (M : Mat) (v : Fin 8 → ℝ) : toRow (mat Mᵀ) (col v) = row (M *ᵥ v) := by
  rw [toRow_mat, Matrix.vecMul_transpose]

/-- The product of two rows. -/
theorem dotRow_row (a v : Fin 8 → ℝ) : dotRow (row a) (row v) = one (a ⬝ᵥ v) := by
  funext j
  idx_vars j
  unfold dotRow
  pointwise [one, row]
  simp only [← EReal.coe_mul, sum_coe, Finset.univ_unique, Finset.sum_singleton]
  rfl

/-- The product of a row and a column. -/
theorem dotCol_col (a v : Fin 8 → ℝ) : dotCol (row a) (col v) = one (a ⬝ᵥ v) := by
  funext j
  idx_vars j
  unfold dotCol
  pointwise [one, row, col]
  simp only [← EReal.coe_mul, sum_coe, Finset.univ_unique, Finset.sum_singleton]
  rfl

/-- A multiple of a row, added to a row. -/
theorem addRow_row (a v : Fin 8 → ℝ) (g : ℝ) : addRow (row a) (one g) (row v) = row (a + g • v) := by
  funext j
  idx_vars j
  unfold addRow
  pointwise [one, row]
  simp only [← EReal.coe_mul, ← EReal.coe_add]
  rfl

/-- A multiple of a column, added to a column. -/
theorem addCol_col (a v : Fin 8 → ℝ) (g : ℝ) : addCol (col a) (one g) (col v) = col (a + g • v) := by
  funext j
  idx_vars j
  unfold addCol
  pointwise [one, col]
  simp only [← EReal.coe_mul, ← EReal.coe_add]
  rfl

/-- A multiple of a column. -/
theorem scaleCol (v : Fin 8 → ℝ) (g : ℝ) : mulf (broadcastTo S8x1 (one g) broadcasts_S1x1_S8x1) (col v) = col (g • v) := by
  funext j
  idx_vars j
  pointwise [one, col]
  simp only [← EReal.coe_mul]
  rfl

/-- A row plus a transposed column. -/
theorem addRowCol (a v : Fin 8 → ℝ) :
    addf (row a) (transpose S1x8 [1, 0] (col v) transposes_S8x1_p1_0_S1x8) = row (a + v) := by
  funext j
  idx_vars j
  pointwise [row, col]
  simp only [← EReal.coe_add]
  rfl

/-- The product of two matrices. -/
theorem matmul_mat (M N : Mat) :
    matmul dot_S8x8_S8x8_S8x8_1_0_0_1_n_n none (mat M) (mat N) (constant S8x8 .f32 0x00000000#32) = mat (M * N) := by
  funext j
  idx_vars j
  pointwise [mat]
  simp only [← EReal.coe_mul, sum_coe]
  rfl

/-- The product of two numbers. -/
theorem mulf_one (x y : ℝ) : mulf (one x) (one y) = one (x * y) := by
  funext j
  pointwise [one]
  exact (EReal.coe_mul x y).symm

/-! ## The two vectors under powers of a matrix -/

/-- Row `i`: an even power of the matrix. -/
theorem rowAt_eq (B : Mat) (v : Fin 8 → ℝ) (i : ℕ) : rowAt (mat B) (mat Bᵀ) (row v) i = row (B ^ (2 * i) *ᵥ v) := by
  induction i with
  | zero => rw [Nat.mul_zero, pow_zero, Matrix.one_mulVec]; rfl
  | succ i ih =>
    show toRow (mat Bᵀ) (toCol (mat B) (rowAt (mat B) (mat Bᵀ) (row v) i)) = _
    rw [ih, toCol_mat, toRow_transpose, Matrix.mulVec_mulVec, Matrix.mulVec_mulVec, mul_assoc, ← pow_succ', ← pow_succ']
    rfl

/-- Column `i`: an even power of the matrix. -/
theorem colAt_eq (B : Mat) (v : Fin 8 → ℝ) (i : ℕ) : colAt (mat B) (mat Bᵀ) (col v) i = col (B ^ (2 * i) *ᵥ v) := by
  induction i with
  | zero => rw [Nat.mul_zero, pow_zero, Matrix.one_mulVec]; rfl
  | succ i ih =>
    show toCol (mat B) (toRow (mat Bᵀ) (colAt (mat B) (mat Bᵀ) (col v) i)) = _
    rw [ih, toRow_transpose, toCol_mat, Matrix.mulVec_mulVec, Matrix.mulVec_mulVec, mul_assoc, ← pow_succ', ← pow_succ']
    rfl

/-! ## The matrices of the body -/

/-- The identity matrix. -/
theorem eye_mat : (k0_pay3 : FVec Ideal S8x8 .f32) = mat 1 := by
  have h : ∀ a b : Fin 8, (BitVec.setWidth 32 (IntOp.cmpi CmpIPredicate.eq (IntOp.addi (BitVec.ofNat 32 ↑a) 0#32)
      (BitVec.ofNat 32 ↑b))).toInt = if a = b then 1 else 0 := by decide
  funext j
  idx_vars j
  unfold k0_pay3
  pointwise
  show ((((BitVec.setWidth 32 (IntOp.cmpi CmpIPredicate.eq (IntOp.addi (BitVec.ofNat 32 ↑j0) 0#32)
      (BitVec.ofNat 32 ↑j1))).toInt : ℝ)) : EReal) = _
  rw [h, show mat 1 (ix2 j0 j1) = (((1 : Mat) j0 j1 : ℝ) : EReal) from rfl, Matrix.one_apply]
  split <;> simp

/-- The transposed matrix. -/
theorem turned_mat (S : Mat) : k0_pay1 (mat S) = mat Sᵀ := by
  funext j
  idx_vars j
  unfold k0_pay1
  pointwise [mat]
  rfl

/-- The exit rates as a row. -/
theorem exits_row (S : Mat) : k0_pay4 (mat S) = row (exits S) := by
  funext j
  idx_vars j
  unfold k0_pay4 k0_pay1
  pointwise [row, mat]
  rw [sum_coe, zero_sub, ← EReal.coe_neg]
  rfl

/-- The largest total rate. -/
theorem rate_one (S : Mat) (c : ℝ) (hle : ∀ i, -S i i ≤ c) (hc : ∃ i, -S i i = c) : k0_pay5 (mat S) = one c := by
  have h : ∀ i : Fin 8, (0 : EReal) - ∑ x, ((S i x : ℝ) : EReal) * (((1 : Mat) i x : ℝ) : EReal) = ((-S i i : ℝ) : EReal) := by
    intro i
    simp only [← EReal.coe_mul, sum_coe, zero_sub, Matrix.one_apply, mul_ite, mul_one, mul_zero, Finset.sum_ite_eq,
      Finset.mem_univ, if_true, EReal.coe_neg]
  funext j
  idx_vars j
  unfold k0_pay5
  rw [eye_mat]
  pointwise [one, mat]
  obtain ⟨i, hi⟩ := hc
  rw [show Ideal.ofBits FTy.f32 4286578688#32 = (⊥ : EReal) from by simp [Ideal.ofBits, Ideal.ieee]]
  exact fold_max_coe _ c (fun x => (h x.1).trans_le (EReal.coe_le_coe_iff.mpr (hle x.1))) (i, 0) ((h i).trans (by rw [hi]))

/-- The matrix `I + S/c`. -/
theorem plusQuotient (S : Mat) (c : ℝ) (hc : c ≠ 0) :
    addf (mat 1) (divf (mat S) (broadcastTo S8x8 (one c) broadcasts_S1x1_S8x8)) = mat (unif S c) := by
  funext j
  idx_vars j
  pointwise [one, mat]
  rw [Ideal.div_coe hc, ← EReal.coe_mul, ← EReal.coe_add, one_div, mul_comm]
  rfl

end Cert.KernelIdeal.Model

end
-- ==== Proof.Kernel.Coefficients.lean ====
/-
  The coefficients of the body's polynomial over the extended reals: at a real matrix whose largest total rate is `c ≠ 0`
  and a real initial vector, `bs` is the coefficient of PhaseType.lean.
-/
module

public import proofs.«01_k».proof.Proof.Kernel.Values
public import Mathlib.Tactic.IntervalCases

@[expose] public section

noncomputable section

namespace Cert.KernelIdeal.Model

open Idealize.ShloMosaic Cert.KernelIdeal Cert.KernelIdeal.Gen Cert.Math
open scoped Matrix BigOperators

/-! ## The constants -/

/-- The word of 1. -/
theorem lit_one : (lit 0x3F800000#32 : Ideal .f32) = ((1 : ℝ) : EReal) := Ideal.ofBits_one_f32

/-- The word of 1/2. -/
theorem lit_half : (lit 0x3F000000#32 : Ideal .f32) = ((1 / 2 : ℝ) : EReal) := by
  show Ideal.ofBits .f32 0x3F000000#32 = _
  simp [Ideal.ofBits, Ideal.ieee, -EReal.coe_mul]; norm_num

/-- The centre of the polynomial: the word nearest to 1.525. -/
def W0 : ℝ := 12792627 / 8388608

/-- The word of the centre of the series. -/
theorem lit_centre : (lit 0x3FC33333#32 : Ideal .f32) = (W0 : EReal) := by
  show Ideal.ofBits .f32 0x3FC33333#32 = _
  simp [Ideal.ofBits, Ideal.ieee, -EReal.coe_mul, W0]; norm_num

/-- The word of minus the centre. -/
theorem lit_neg_centre : (lit 0xBFC33333#32 : Ideal .f32) = ((-W0 : ℝ) : EReal) := by
  show Ideal.ofBits .f32 0xBFC33333#32 = _
  simp [Ideal.ofBits, Ideal.ieee, -EReal.coe_mul, -EReal.coe_neg, W0]; norm_num

/-- The word of the number of padded weights. -/
theorem lit_pads : (lit 0x45F70000#32 : Ideal .f32) = ((7904 : ℝ) : EReal) := by
  show Ideal.ofBits .f32 0x45F70000#32 = _
  simp [Ideal.ofBits, Ideal.ieee, -EReal.coe_mul]; norm_num

/-- A named constant is the number of its name. -/
theorem named_eq {name : String} {b : BitVec 32} {x y : ℝ} (h : κ name = some (x : EReal)) (hxy : x = y) :
    (Named.named κ name b : Ideal .f32) = (y : EReal) := by
  show (κ name).getD _ = _
  rw [h, hxy]
  rfl

/-- The constants that go two factors on in a factorial. -/
theorem pairConst_eq (k : ℕ) (h2 : 2 ≤ k) (h20 : k ≤ 20) : (pairConst k : Ideal .f32) = ((1 / (k * (k - 1)) : ℝ) : EReal) := by
  interval_cases k
  · exact lit_half.trans (by norm_num)
  all_goals exact named_eq rfl (by norm_num)

/-- The constants `1/m!`. -/
theorem factConst_eq (m : ℕ) (h1 : 1 ≤ m) (h17 : m ≤ 17) : (factConst m : Ideal .f32) = ((1 / (m.factorial : ℝ) : ℝ) : EReal) := by
  interval_cases m
  · exact lit_one.trans (by norm_num)
  · exact lit_half.trans (by norm_num [Nat.factorial])
  all_goals exact named_eq rfl (by norm_num [Nat.factorial])

/-! ## The weights of the powers -/

/-- One step of the weights of the head series: two factors on. -/
theorem gamStep_eq (x g : ℝ) (k : ℕ) (h2 : 2 ≤ k) (h20 : k ≤ 20) :
    gamStep (one x) (one g) k = one (g * x * x * (1 / (k * (k - 1)))) := by
  unfold gamStep
  rw [mulf_one, mulf_one, pairConst_eq k h2 h20]
  exact mulf_one _ _

/-- The weight of power `k`. -/
def weight (x : ℝ) (k : ℕ) : ℝ := x ^ k / (k.factorial : ℝ)

/-- A weight of the head series from the one two before it. -/
theorem weight_step (x : ℝ) (k : ℕ) :
    weight x k * x * x * (1 / (((k + 2 : ℕ) : ℝ) * (((k + 2 : ℕ) : ℝ) - 1))) = weight x (k + 2) := by
  unfold weight
  rw [Nat.factorial_succ, Nat.factorial_succ]
  push_cast
  have h1 : (k.factorial : ℝ) ≠ 0 := by exact_mod_cast k.factorial_ne_zero
  have h2 : (k : ℝ) + 1 ≠ 0 := by positivity
  have h3 : (k : ℝ) + 2 ≠ 0 := by positivity
  rw [show (k : ℝ) + 2 - 1 = k + 1 by ring, show (k : ℝ) + 1 + 1 = k + 2 by ring]
  field_simp
  ring

/-- The even weights of the head series. -/
theorem gamE_eq (x : ℝ) (j : ℕ) (hj : j ≤ 10) : gamE (one x) j = one (weight x (2 * j)) := by
  induction j with
  | zero =>
    show broadcast S1x1 (lit 0x3F800000#32) = _
    rw [lit_one]
    unfold weight
    norm_num
    rfl
  | succ j ih =>
    show gamStep (one x) (gamE (one x) j) (2 * j + 2) = _
    rw [ih (by omega), gamStep_eq _ _ _ (by omega) (by omega), weight_step]
    rfl

/-- The odd weights of the head series. -/
theorem gamO_eq (x : ℝ) (j : ℕ) (hj : j ≤ 9) : gamO (one x) j = one (weight x (2 * j + 1)) := by
  induction j with
  | zero =>
    show one x = _
    unfold weight
    norm_num
  | succ j ih =>
    show gamStep (one x) (gamO (one x) j) (2 * j + 3) = _
    rw [ih (by omega), gamStep_eq _ _ _ (by omega) (by omega), weight_step]
    rfl

/-! ## The row `A` -/

/-- The summand of power `k`: the weight times the power against the initial vector. -/
def summand (R : Mat) (α : Fin 8 → ℝ) (x : ℝ) (k : ℕ) : Fin 8 → ℝ := weight x k • (R ^ k *ᵥ α)

/-- Row `i`: power `4 i` of the matrix against the starting vector. -/
theorem row_power (R : Mat) (α : Fin 8 → ℝ) (i : ℕ) :
    rowAt (mat (R ^ 2)) (mat (R ^ 2)ᵀ) (row α) i = row (R ^ (4 * i) *ᵥ α) := by
  rw [rowAt_eq, ← pow_mul, show 2 * (2 * i) = 4 * i by ring]

/-- Column `i`: power `4 i + 1` of the matrix against the starting vector. -/
theorem col_power (R : Mat) (α : Fin 8 → ℝ) (i : ℕ) :
    colAt (mat (R ^ 2)) (mat (R ^ 2)ᵀ) (toCol (mat R) (row α)) i = col (R ^ (4 * i + 1) *ᵥ α) := by
  rw [toCol_mat, colAt_eq, ← pow_mul, show 2 * (2 * i) = 4 * i by ring, Matrix.mulVec_mulVec, ← pow_succ]

/-- The running sum of the rows. -/
theorem arAcc_eq (R : Mat) (α : Fin 8 → ℝ) (x : ℝ) (i : ℕ) (hi : i ≤ 5) :
    arAcc (mat (R ^ 2)) (mat (R ^ 2)ᵀ) (one x) (row α) (toCol (mat R) (row α)) i
      = row (summand R α x 0 + ∑ j ∈ Finset.range i, (summand R α x (4 * j + 3) + summand R α x (4 * j + 4))) := by
  induction i with
  | zero =>
    show row α = _
    unfold summand weight
    simp
  | succ i ih =>
    show addRow (addRow (arAcc (mat (R ^ 2)) (mat (R ^ 2)ᵀ) (one x) (row α) (toCol (mat R) (row α)) i) (gamO (one x) (2 * i + 1))
      (toRow (mat (R ^ 2)ᵀ) (colAt (mat (R ^ 2)) (mat (R ^ 2)ᵀ) (toCol (mat R) (row α)) i))) (gamE (one x) (2 * i + 2))
      (rowAt (mat (R ^ 2)) (mat (R ^ 2)ᵀ) (row α) (i + 1)) = _
    rw [ih (by omega), gamO_eq _ _ (by omega), gamE_eq _ _ (by omega), col_power, toRow_transpose, row_power, addRow_row,
      addRow_row, Matrix.mulVec_mulVec, ← pow_add, Finset.sum_range_succ, show 2 + (4 * i + 1) = 4 * i + 3 by ring,
      show 2 * (2 * i + 1) + 1 = 4 * i + 3 by ring, show 2 * (2 * i + 2) = 4 * i + 4 by ring, show 4 * (i + 1) = 4 * i + 4 by ring]
    unfold summand
    simp only [add_assoc]

/-- The running sum of the columns. -/
theorem acAcc_eq (R : Mat) (α : Fin 8 → ℝ) (x : ℝ) (i : ℕ) (hi : i ≤ 4) :
    acAcc (mat (R ^ 2)) (mat (R ^ 2)ᵀ) (one x) (row α) (toCol (mat R) (row α)) i
      = col (summand R α x 1 + summand R α x 2
          + ∑ j ∈ Finset.range i, (summand R α x (4 * j + 5) + summand R α x (4 * j + 6))) := by
  induction i with
  | zero =>
    show addCol (mulf (broadcastTo S8x1 (one x) broadcasts_S1x1_S8x1) (toCol (mat R) (row α))) (gamE (one x) 1)
      (toCol (mat (R ^ 2)) (row α)) = _
    rw [gamE_eq _ _ (by omega), toCol_mat, toCol_mat, scaleCol, addCol_col]
    unfold summand
    rw [Finset.sum_range_zero, add_zero, pow_one]
    unfold weight
    norm_num
  | succ i ih =>
    show addCol (addCol (acAcc (mat (R ^ 2)) (mat (R ^ 2)ᵀ) (one x) (row α) (toCol (mat R) (row α)) i) (gamO (one x) (2 * i + 2))
      (colAt (mat (R ^ 2)) (mat (R ^ 2)ᵀ) (toCol (mat R) (row α)) (i + 1))) (gamE (one x) (2 * i + 3))
      (toCol (mat (R ^ 2)) (rowAt (mat (R ^ 2)) (mat (R ^ 2)ᵀ) (row α) (i + 1))) = _
    rw [ih (by omega), gamO_eq _ _ (by omega), gamE_eq _ _ (by omega), col_power, row_power, toCol_mat, addCol_col,
      addCol_col, Matrix.mulVec_mulVec, ← pow_add, Finset.sum_range_succ, show 2 + 4 * (i + 1) = 4 * i + 6 by ring,
      show 2 * (2 * i + 2) + 1 = 4 * i + 5 by ring, show 2 * (2 * i + 3) = 4 * i + 6 by ring,
      show 4 * (i + 1) + 1 = 4 * i + 5 by ring]
    unfold summand
    simp only [add_assoc]

/-- The two accumulators hold the summands of the powers 0 to 20. -/
theorem accumulators (f : ℕ → Fin 8 → ℝ) :
    (f 0 + ∑ j ∈ Finset.range 5, (f (4 * j + 3) + f (4 * j + 4)))
        + (f 1 + f 2 + ∑ j ∈ Finset.range 4, (f (4 * j + 5) + f (4 * j + 6)))
      = ∑ k ∈ Finset.range 21, f k := by
  simp only [Finset.sum_range_succ, Finset.sum_range_zero, zero_add, Nat.mul_zero, Nat.reduceMul, Nat.reduceAdd]
  abel

/-! ## Powers of `c`, and the coefficients unfolded -/

/-- The powers of `c`. -/
theorem cPow_eq (c : ℝ) (m : ℕ) : cPow (one c) m = one (c ^ (m + 1)) := by
  induction m with
  | zero => rw [zero_add, pow_one]; rfl
  | succ m ih =>
    show mulf (cPow (one c) m) (one c) = _
    rw [ih, mulf_one, ← pow_succ]

/-- The first coefficient, unfolded. -/
theorem bs_zero (S : Vec Ideal S8x8 .f32) (α : Vec Ideal S1x8 .f32) : bs S α 0 = us S (aRow S α) 0 := rfl

/-- The later coefficients, unfolded. -/
theorem bs_succ (S : Vec Ideal S8x8 .f32) (α : Vec Ideal S1x8 .f32) (m : ℕ) : bs S α (m + 1)
    = mulf (mulf (us S (aRow S α) (m + 1)) (broadcast S1x1 (factConst (m + 1)))) (cPow (k0_pay5 S) m) := rfl

/-! ## At the real inputs -/

variable (S : Mat) (α : Fin 8 → ℝ) (c : ℝ)

/-- `c` is the largest total rate of `S`, and not zero. -/
structure Rate : Prop where
  le : ∀ i, -S i i ≤ c
  attained : ∃ i, -S i i = c
  ne : c ≠ 0

variable {S α c} (h : Rate S c)
include h

/-- The body takes `c` to be the largest total rate. -/
theorem pay5 : k0_pay5 (mat S) = one c := rate_one S c h.le h.attained

/-- The body forms `I + S/c`. -/
theorem pay6 : k0_pay6 (mat S) = mat (unif S c) := by
  unfold k0_pay6
  rw [pay5 h, eye_mat]
  exact plusQuotient S c h.ne

/-- The body forms its transpose. -/
theorem pay7 : k0_pay7 (mat S) = mat (unif S c)ᵀ := by
  unfold k0_pay7
  rw [pay5 h, eye_mat, turned_mat]
  refine (plusQuotient Sᵀ c h.ne).trans (congrArg mat ?_)
  unfold unif
  rw [Matrix.transpose_add, Matrix.transpose_one, Matrix.transpose_smul]

/-- The body squares the matrix. -/
theorem pay8 : k0_pay8 (mat S) = mat (unif S c ^ 2) := by
  unfold k0_pay8
  rw [pay6 h, pow_two]
  exact matmul_mat _ _

/-- The body squares the transpose. -/
theorem pay9 : k0_pay9 (mat S) = mat ((unif S c)ᵀ ^ 2) := by
  unfold k0_pay9
  rw [pay7 h, pow_two]
  exact matmul_mat _ _

/-- The body forms `c W0`. -/
theorem pay10 : k0_pay10 (mat S) = one (c * W0) := by
  unfold k0_pay10
  rw [pay5 h]
  show mulf (one c) (broadcast S1x1 (lit 0x3FC33333#32)) = _
  rw [lit_centre]
  exact mulf_one c W0

/-- The head series of the starting vector, at `c W0`. -/
theorem aRow_eq : aRow (mat S) (row α) = row (headRow S α c (c * W0)) := by
  have e2 : k0_pay2 (row α) = row α := by
    unfold k0_pay2
    exact shapeCast_self _ _
  have e8 : k0_pay8 (mat S) = mat ((unif S c)ᵀ ^ 2)ᵀ := by
    rw [pay8 h, Matrix.transpose_pow, Matrix.transpose_transpose]
  unfold aRow
  rw [e2, pay9 h, e8, pay10 h, pay7 h, arAcc_eq _ _ _ _ le_rfl, acAcc_eq _ _ _ _ le_rfl, addRowCol, accumulators]
  rfl

/-- A row against the powers of `I + S/c` and the exit rates. -/
theorem us_eq (A : Fin 8 → ℝ) (m : ℕ) : us (mat S) (row A) m = one (A ⬝ᵥ (unif S c ^ m *ᵥ exits S)) := by
  have e9 : k0_pay9 (mat S) = mat (unif S c ^ 2)ᵀ := by rw [pay9 h, Matrix.transpose_pow]
  have hm := Nat.div_add_mod m 4
  unfold us
  rw [pay8 h, e9, exits_row, pay6 h]
  split
  · rename_i hr
    rw [row_power, dotRow_row, show 4 * (m / 4) = m by omega]
  · rename_i hr
    rw [col_power, dotCol_col, show 4 * (m / 4) + 1 = m by omega]
  · rename_i hr
    rw [row_power, toCol_mat, dotCol_col, Matrix.mulVec_mulVec, ← pow_add, show 2 + 4 * (m / 4) = m by omega]
  · rename_i h0 h1 h2
    have := Nat.mod_lt m (show 0 < 4 by norm_num)
    have h3 : m % 4 = 3 := by
      have : ¬m % 4 = 0 := h0
      have : ¬m % 4 = 1 := h1
      have : ¬m % 4 = 2 := h2
      omega
    rw [col_power, toRow_transpose, dotRow_row, Matrix.mulVec_mulVec, ← pow_add, show 2 + (4 * (m / 4) + 1) = m by omega]

/-- The coefficient of degree `m` of the body's polynomial. -/
def coeff (S : Mat) (α : Fin 8 → ℝ) (c : ℝ) (m : ℕ) : ℝ :=
  (∑ k ∈ Finset.range 21, W0 ^ k / (k.factorial : ℝ) * moment S α c (k + m)) / (m.factorial : ℝ)

/-- The body's coefficients are the polynomial's. -/
theorem bs_eq (m : ℕ) (hm : m ≤ 17) : bs (mat S) (row α) m = one (coeff S α c m) := by
  unfold coeff
  rw [← coefficient S α c h.ne W0 m]
  cases m with
  | zero =>
    rw [bs_zero, aRow_eq h, us_eq h]
    norm_num
  | succ m =>
    rw [bs_succ, aRow_eq h, us_eq h, pay5 h, cPow_eq, factConst_eq _ (by omega) hm]
    exact (congrArg (fun x => mulf x (one (c ^ (m + 1)))) (mulf_one _ _)).trans (mulf_one _ _)

end Cert.KernelIdeal.Model

end
-- ==== Proof.Kernel.Total.lean ====
/-
  The kernel's result over the extended reals: at real inputs whose polynomial is positive at a zero weight, the sum over
  the weights of the polynomial's logarithm, minus `c` times the sum of the weights.
-/
module

public import proofs.«01_k».proof.Proof.Kernel.Coefficients
public import proofs.«01_k».proof.Proof.Kernel.Run

@[expose] public section

noncomputable section

namespace Cert.KernelIdeal.Model

open Idealize.ShloMosaic Cert.KernelIdeal Cert.KernelIdeal.Gen Cert.Math
open scoped Matrix BigOperators

/-! ## Horner's rule -/

/-- After `n` steps Horner's rule holds the polynomial of the top `n + 1` coefficients. -/
theorem horner_eq {s : Shape} (b : ℕ → ℝ) (B : ℕ → FVec Ideal s .f32) (hB : ∀ m ≤ 17, B m = fun _ => ((b m : ℝ) : EReal))
    (D : FVec Ideal s .f32) (d : s.Idx → ℝ) (hD : D = fun i => ((d i : ℝ) : EReal)) (n : ℕ) (hn : n ≤ 17) :
    horner B D n = fun i => ((∑ m ∈ Finset.range (n + 1), b (17 - n + m) * d i ^ m : ℝ) : EReal) := by
  induction n with
  | zero =>
    show B 17 = _
    rw [hB 17 le_rfl]
    funext i
    simp
  | succ n ih =>
    show addf (mulf (horner B D n) D) (B (16 - n)) = _
    rw [ih (by omega), hB _ (by omega), hD]
    funext i
    show ((_ : ℝ) : EReal) * ((d i : ℝ) : EReal) + ((b (16 - n) : ℝ) : EReal) = _
    rw [← EReal.coe_mul, ← EReal.coe_add,
      Finset.sum_range_succ' (fun m => b (17 - (n + 1) + m) * d i ^ m) (n + 1), Finset.sum_mul]
    refine congrArg _ (congrArg₂ (· + ·) (Finset.sum_congr rfl fun m _ => ?_) ?_)
    · rw [show 17 - (n + 1) + (m + 1) = 17 - n + m by omega]
      ring
    · rw [show 17 - (n + 1) + 0 = 16 - n by omega, pow_zero, mul_one]

/-- All of Horner's steps: the polynomial. -/
theorem horner_poly {s : Shape} (S : Mat) (α : Fin 8 → ℝ) (c : ℝ) (B : ℕ → FVec Ideal s .f32)
    (hB : ∀ m ≤ 17, B m = fun _ => ((coeff S α c m : ℝ) : EReal)) (D : FVec Ideal s .f32) (d : s.Idx → ℝ)
    (hD : D = fun i => ((d i : ℝ) : EReal)) : horner B D 17 = fun i => ((poly W0 (moment S α c) (d i) : ℝ) : EReal) := by
  rw [horner_eq (coeff S α c) B hB D d hD 17 le_rfl]
  funext i
  refine congrArg _ (Finset.sum_congr rfl fun m _ => ?_)
  rw [show 17 - 17 + m = m by omega]
  rfl

/-! ## The logarithms -/

/-- The logarithm of the polynomial at a weight. -/
def logAt (S : Mat) (α : Fin 8 → ℝ) (c w : ℝ) : EReal := Ideal.log ((poly W0 (moment S α c) (w - W0) : ℝ) : EReal)

section

variable {S : Mat} {α : Fin 8 → ℝ} {c : ℝ} (h : Rate S c)
include h

/-- The body's logarithm at a padded weight. -/
theorem logPad_eq : (logPad (mat S) (row α) : FVec Ideal S1x1 .f32) = fun _ => logAt S α c 0 := by
  unfold logPad
  rw [horner_poly S α c (bs (mat S) (row α)) (fun m hm => bs_eq h m hm) _ (fun _ => -W0) (by rw [lit_neg_centre]; rfl)]
  unfold logAt
  rw [zero_sub]
  rfl

/-- The body's logarithms on a chunk of real weights. -/
theorem logChunk_eq (W : FVec Ideal S64x128 .f32) (w : S64x128.Idx → ℝ) (hW : W = fun i => ((w i : ℝ) : EReal)) :
    logChunk (mat S) (row α) W = fun i => logAt S α c (w i) := by
  unfold logChunk
  rw [horner_poly S α c (fun m => broadcast S64x128 (entry (bs (mat S) (row α) m))) (fun m hm => by rw [bs_eq h m hm]; rfl) _
    (fun i => w i - W0) (by
      rw [lit_centre, hW]
      funext i
      exact (EReal.coe_sub _ _).symm)]
  rfl

end

/-! ## The padded weights -/

/-- The weights with zeros after them. -/
def pad (w : Fin 500000 → ℝ) (n : ℕ) : ℝ := if h : n < 500000 then w ⟨n, h⟩ else 0

/-- Real weights as an array. -/
def vec (w : Fin 500000 → ℝ) : FVec Ideal S500000 .f32 := fun i => ((w (i 0) : ℝ) : EReal)

/-- An entry of chunk `t` of the padded weights. -/
theorem piece_eq (w : Fin 500000 → ℝ) (t : ℕ) (ht : t < 62) :
    piece (padded (vec w)) t = fun i => ((pad w (t * 8192 + ((i 0).val * 128 + (i 1).val)) : ℝ) : EReal) := by
  funext j
  idx_vars j
  have hi : ∀ (x : FVec Ideal S3968x128 .f32) (k : Fin 3968) (hk : k.val = 64 * t + j0.val),
      VecWindow.window x ![64 * min t 61, 0] S64x128.size (chunk_inb t) (ix2 j0 j1) = x (ix2 k j1) := by
    intro x k hk
    refine congrArg x (funext fun a => Fin.ext ?_)
    match a with
    | ⟨0, _⟩ => show 64 * min t 61 + 1 * j0.val = k.val; omega
    | ⟨1, _⟩ => show 0 + 1 * j1.val = j1.val; omega
  unfold piece
  pointwise
  rw [hi _ ⟨64 * t + j0.val, by omega⟩ rfl]
  unfold padded
  pointwise [vec]
  unfold pad
  have hk : (64 * t + j0.val) * 128 + j1.val = t * 8192 + (j0.val * 128 + j1.val) := by ring
  by_cases hn : (64 * t + j0.val) * 128 + j1.val < 500000
  · rw [dif_pos hn, dif_pos (hk ▸ hn)]
    exact congrArg (fun k => ((w k : ℝ) : EReal)) (Fin.ext hk)
  · rw [dif_neg hn, dif_neg (hk ▸ hn), EReal.coe_zero]

/-! ## The sums -/

/-- The body's sum over a chunk, as one sum over its entries in order. -/
theorem total_eq (x : FVec Ideal S64x128 .f32) (f : ℕ → EReal) (hx : x = fun i => f ((i 0).val * 128 + (i 1).val)) :
    total x = fun _ => ∑ n ∈ Finset.range (64 * 128), f n := by
  funext j
  idx_vars j
  unfold total
  pointwise
  rw [hx, show 8192 = 64 * 128 from by norm_num, sum_range_mul, Finset.sum_range]
  refine Finset.sum_congr rfl fun a _ => ?_
  rw [Finset.sum_range]
  rfl

/-- A running sum of chunks, entry by entry. -/
theorem wSum_eq (x : ℕ → FVec Ideal S64x128 .f32) (f : ℕ → EReal) (T : ℕ)
    (hx : ∀ t < T, x t = fun i => f (t * 8192 + ((i 0).val * 128 + (i 1).val))) :
    wSum x T = fun i => ∑ t ∈ Finset.range T, f (t * 8192 + ((i 0).val * 128 + (i 1).val)) := by
  induction T with
  | zero =>
    funext i
    show Ideal.ofBits .f32 0#32 = _
    rw [Finset.range_zero, Finset.sum_empty]
    exact Ideal.ofBits_zero _
  | succ T ih =>
    show addf (wSum x T) (x T) = _
    rw [ih fun t ht => hx t (by omega), hx T (by omega)]
    funext i
    rw [Finset.sum_range_succ]
    rfl

/-- The logarithms' running sum is a running sum of chunks. -/
theorem logSum_wSum (S : FVec Ideal S8x8 .f32) (α : FVec Ideal S1x8 .f32) (x : ℕ → FVec Ideal S64x128 .f32) (T : ℕ) :
    logSum S α x T = wSum (fun t => logChunk S α (x t)) T := rfl

/-- The entries of all 62 chunks, summed, are the padded array's. -/
theorem total_wSum (x : ℕ → FVec Ideal S64x128 .f32) (f : ℕ → EReal)
    (hx : ∀ t < 62, x t = fun i => f (t * 8192 + ((i 0).val * 128 + (i 1).val))) :
    total (wSum x 62) = fun _ => ∑ n ∈ Finset.range 507904, f n := by
  rw [total_eq _ (fun k => ∑ t ∈ Finset.range 62, f (t * 8192 + k)) (wSum_eq x f 62 hx)]
  funext _
  rw [Finset.sum_comm, show 507904 = 62 * 8192 from by norm_num, sum_range_mul]

/-- A sum over the padded weights: over the weights, plus the 7904 pads. -/
theorem sum_pad (w : Fin 500000 → ℝ) (g : ℝ → EReal) :
    ∑ n ∈ Finset.range 507904, g (pad w n) = (∑ n, g (w n)) + ∑ _n ∈ Finset.range 7904, g 0 := by
  rw [show 507904 = 500000 + 7904 from by norm_num, Finset.sum_range_add, Finset.sum_range]
  refine congrArg₂ (· + ·) (Finset.sum_congr rfl fun n _ => ?_) (Finset.sum_congr rfl fun n _ => ?_)
  · unfold pad
    rw [dif_pos n.isLt]
  · unfold pad
    rw [dif_neg (by omega)]

/-! ## The result -/

/-- The starting vector as an array. -/
def start (α : Fin 8 → ℝ) : FVec Ideal S8 .f32 := fun i => ((α (i 0) : ℝ) : EReal)

/-- The starting vector laid out as a row. -/
theorem start_row (α : Fin 8 → ℝ) : shapeCast S1x8 (start α) shapeCasts_S8_S1x8 = row α := by
  funext j
  idx_vars j
  pointwise [start, row]

/-- The kernel's result: the sum over the weights of the polynomial's logarithm, minus `c` times the sum of the weights. -/
theorem result_eq {S : Mat} {α : Fin 8 → ℝ} {c : ℝ} (h : Rate S c) (w : Fin 500000 → ℝ) (hp : 0 < poly W0 (moment S α c) (-W0)) :
    result (vec w) (mat S) (start α) = fun _ => (∑ n, logAt S α c (w n)) + ((-(c * ∑ n, w n) : ℝ) : EReal) := by
  have h0 : logAt S α c 0 = ((Real.log (poly W0 (moment S α c) (-W0)) : ℝ) : EReal) := by
    unfold logAt
    rw [zero_sub, log_pos_coe hp]
  have hL : total (logSum (mat S) (row α) (piece (padded (vec w))) 62)
      = fun _ => (∑ n, logAt S α c (w n)) + ((7904 * Real.log (poly W0 (moment S α c) (-W0)) : ℝ) : EReal) := by
    rw [logSum_wSum, total_wSum _ (fun n => logAt S α c (pad w n)) fun t ht => logChunk_eq h _ _ (piece_eq w t ht),
      sum_pad w (logAt S α c), h0, sum_const_coe, Nat.cast_ofNat]
  have hW : total (wSum (piece (padded (vec w))) 62) = fun _ => ((∑ n, w n : ℝ) : EReal) := by
    rw [total_wSum _ (fun n => ((pad w n : ℝ) : EReal)) fun t ht => piece_eq w t ht, sum_pad w (fun x => (x : EReal)), sum_const_coe,
      sum_coe, mul_zero, EReal.coe_zero, add_zero]
  unfold result out
  rw [start_row, hL, hW, pay5 h, logPad_eq h, h0, lit_pads]
  funext _
  show _ + ((_ : ℝ) : EReal) - ((c : ℝ) : EReal) * ((_ : ℝ) : EReal) - ((7904 : ℝ) : EReal) * ((_ : ℝ) : EReal) = _
  rw [← EReal.coe_mul, ← EReal.coe_mul, add_sub_sub]

end Cert.KernelIdeal.Model

end
-- ==== Proof.Claim.Equal.lean ====
/-
  The kernel and the reference agree: on inputs that meet the precondition both results are the sum over the weights of
  the polynomial's logarithm, minus `c` times the sum of the weights.
-/
module

public import proofs.«01_k».proof.Proof.Kernel.Total
public import proofs.«01_k».proof.Proof.Reference.Values
public import proofs.«01_k».proof.Proof.Pre.Reals

@[expose] public section

noncomputable section

namespace Cert.Equal

open Idealize.ShloMosaic Cert.Math
open scoped BigOperators

/-- The two programs write the centre of the series by the same number. -/
theorem centre : Cert.KernelIdeal.Model.W0 = Cert.ReferenceIdeal.Model.W0 := rfl

/-- On a phase-type distribution the kernel's result is the reference's. -/
theorem values (w : Fin 500000 → ℝ) (S : Mat) (α : Fin 8 → ℝ) (c : ℝ) (h : PhaseType S α c) :
    shapeCast Cert.KernelIdeal.S_
        (Cert.KernelIdeal.Model.result (Cert.KernelIdeal.Model.vec w) (Cert.KernelIdeal.Model.mat S) (Cert.KernelIdeal.Model.start α))
        Cert.KernelIdeal.Gen.shapeCasts_S1x1_S_
      = Cert.ReferenceIdeal.Model.total (Cert.ReferenceIdeal.Model.vec w) (Cert.ReferenceIdeal.Model.mat S)
          (Cert.ReferenceIdeal.Model.start8 α) := by
  have hW : 0 ≤ Cert.KernelIdeal.Model.W0 := by
    unfold Cert.KernelIdeal.Model.W0
    norm_num
  have hW' : Cert.KernelIdeal.Model.W0 * 3 ≤ 23 / 5 := by
    unfold Cert.KernelIdeal.Model.W0
    norm_num
  rw [Cert.KernelIdeal.Model.result_eq ⟨h.diag, h.attained, h.rate_pos.ne'⟩ w (h.poly_pos _ hW hW'),
    Cert.ReferenceIdeal.Model.total_eq w S α c h.diag h.attained, ← centre]
  rfl

/-- The kernel's result as a number. -/
def kernelOut (w : FVec Ideal Cert.KernelIdeal.S500000 .f32) (S : FVec Ideal Cert.KernelIdeal.S8x8 .f32)
    (α : FVec Ideal Cert.KernelIdeal.S8 .f32) : FVec Ideal Cert.KernelIdeal.S_ .f32 :=
  shapeCast Cert.KernelIdeal.S_ (Cert.KernelIdeal.Model.result w S α) Cert.KernelIdeal.Gen.shapeCasts_S1x1_S_

/-- On inputs that meet the precondition the kernel's result is the reference's. -/
theorem results (w : FVec Ideal Cert.KernelIdeal.S500000 .f32) (S : FVec Ideal Cert.KernelIdeal.S8x8 .f32)
    (α : FVec Ideal Cert.KernelIdeal.S8 .f32) (h : Cert.Pre_phase_type.fn w S α = fun _ => 1#1) :
    kernelOut w S α = Cert.ReferenceIdeal.Model.total w S α := by
  obtain ⟨w', S', α', c, rfl, rfl, rfl, hp⟩ := Cert.Pre_phase_type.reals w S α h
  exact values w' S' α' c hp

end Cert.Equal

end
-- ==== Proof.lean ====
/-
  The proof of the claims: the frames, the named constants, and that the kernel and the reference compute the same function.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.Reference.Model
public import proofs.«01_k».proof.Proof.Pre.Reals
public import proofs.«01_k».proof.Proof.Claim.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's executions end, leave the arguments as they were and no semaphore counter but at zero: it has none. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems rfl r.2⟩)
    (Cert.ReferenceIdeal.Model.run m g)

/-- Each named constant's word is the rounding of the number of its name. -/
theorem preserves : Cert.preserves_Kernel_KernelIdeal :=
  ⟨IdealRules.named_const.statement Cert.KernelIdeal.κ "inv_fact_3" .f32 0x3E2AAAAB#32 ((1 / 6 : ℝ) : EReal) rfl,
    IdealRules.named_const.statement Cert.KernelIdeal.κ "inv_pair_4" .f32 0x3DAAAAAB#32 ((1 / 12 : ℝ) : EReal) rfl,
    IdealRules.named_const.statement Cert.KernelIdeal.κ "inv_pair_5" .f32 0x3D4CCCCD#32 ((1 / 20 : ℝ) : EReal) rfl,
    IdealRules.named_const.statement Cert.KernelIdeal.κ "inv_pair_6" .f32 0x3D088889#32 ((1 / 30 : ℝ) : EReal) rfl,
    IdealRules.named_const.statement Cert.KernelIdeal.κ "inv_pair_7" .f32 0x3CC30C31#32 ((1 / 42 : ℝ) : EReal) rfl,
    IdealRules.named_const.statement Cert.KernelIdeal.κ "inv_pair_8" .f32 0x3C924925#32 ((1 / 56 : ℝ) : EReal) rfl,
    IdealRules.named_const.statement Cert.KernelIdeal.κ "inv_pair_9" .f32 0x3C638E39#32 ((1 / 72 : ℝ) : EReal) rfl,
    IdealRules.named_const.statement Cert.KernelIdeal.κ "inv_pair_10" .f32 0x3C360B61#32 ((1 / 90 : ℝ) : EReal) rfl,
    IdealRules.named_const.statement Cert.KernelIdeal.κ "inv_pair_11" .f32 0x3C14F209#32 ((1 / 110 : ℝ) : EReal) rfl,
    IdealRules.named_const.statement Cert.KernelIdeal.κ "inv_pair_12" .f32 0x3BF83E10#32 ((1 / 132 : ℝ) : EReal) rfl,
    IdealRules.named_const.statement Cert.KernelIdeal.κ "inv_pair_13" .f32 0x3BD20D21#32 ((1 / 156 : ℝ) : EReal) rfl,
    IdealRules.named_const.statement Cert.KernelIdeal.κ "inv_pair_14" .f32 0x3BB40B41#32 ((1 / 182 : ℝ) : EReal) rfl,
    IdealRules.named_const.statement Cert.KernelIdeal.κ "inv_pair_15" .f32 0x3B9C09C1#32 ((1 / 210 : ℝ) : EReal) rfl,
    IdealRules.named_const.statement Cert.KernelIdeal.κ "inv_pair_16" .f32 0x3B888889#32 ((1 / 240 : ℝ) : EReal) rfl,
    IdealRules.named_const.statement Cert.KernelIdeal.κ "inv_pair_17" .f32 0x3B70F0F1#32 ((1 / 272 : ℝ) : EReal) rfl,
    IdealRules.named_const.statement Cert.KernelIdeal.κ "inv_pair_18" .f32 0x3B562B81#32 ((1 / 306 : ℝ) : EReal) rfl,
    IdealRules.named_const.statement Cert.KernelIdeal.κ "inv_pair_19" .f32 0x3B3FA030#32 ((1 / 342 : ℝ) : EReal) rfl,
    IdealRules.named_const.statement Cert.KernelIdeal.κ "inv_pair_20" .f32 0x3B2C7692#32 ((1 / 380 : ℝ) : EReal) rfl,
    IdealRules.named_const.statement Cert.KernelIdeal.κ "inv_fact_4" .f32 0x3D2AAAAB#32 ((1 / 24 : ℝ) : EReal) rfl,
    IdealRules.named_const.statement Cert.KernelIdeal.κ "inv_fact_5" .f32 0x3C088889#32 ((1 / 120 : ℝ) : EReal) rfl,
    IdealRules.named_const.statement Cert.KernelIdeal.κ "inv_fact_6" .f32 0x3AB60B61#32 ((1 / 720 : ℝ) : EReal) rfl,
    IdealRules.named_const.statement Cert.KernelIdeal.κ "inv_fact_7" .f32 0x39500D01#32 ((1 / 5040 : ℝ) : EReal) rfl,
    IdealRules.named_const.statement Cert.KernelIdeal.κ "inv_fact_8" .f32 0x37D00D01#32 ((1 / 40320 : ℝ) : EReal) rfl,
    IdealRules.named_const.statement Cert.KernelIdeal.κ "inv_fact_9" .f32 0x3638EF1D#32 ((1 / 362880 : ℝ) : EReal) rfl,
    IdealRules.named_const.statement Cert.KernelIdeal.κ "inv_fact_10" .f32 0x3493F27E#32 ((1 / 3628800 : ℝ) : EReal) rfl,
    IdealRules.named_const.statement Cert.KernelIdeal.κ "inv_fact_11" .f32 0x32D7322B#32 ((1 / 39916800 : ℝ) : EReal) rfl,
    IdealRules.named_const.statement Cert.KernelIdeal.κ "inv_fact_12" .f32 0x310F76C7#32 ((1 / 479001600 : ℝ) : EReal) rfl,
    IdealRules.named_const.statement Cert.KernelIdeal.κ "inv_fact_13" .f32 0x2F309231#32 ((1 / 6227020800 : ℝ) : EReal) rfl,
    IdealRules.named_const.statement Cert.KernelIdeal.κ "inv_fact_14" .f32 0x2D49CBA5#32 ((1 / 87178291200 : ℝ) : EReal) rfl,
    IdealRules.named_const.statement Cert.KernelIdeal.κ "inv_fact_15" .f32 0x2B573F9F#32 ((1 / 1307674368000 : ℝ) : EReal) rfl,
    IdealRules.named_const.statement Cert.KernelIdeal.κ "inv_fact_16" .f32 0x29573F9F#32 ((1 / 20922789888000 : ℝ) : EReal) rfl,
    IdealRules.named_const.statement Cert.KernelIdeal.κ "inv_fact_17" .f32 0x274A963C#32 ((1 / 355687428096000 : ℝ) : EReal) rfl⟩

/-- The kernel and the reference compute the same function. -/
theorem algebraic : Cert.algebraic_KernelIdeal_ReferenceIdeal_pre_phase_type := by
  intro m g m' g' hpre hargs
  refine ⟨fun c => Cert.Equal.kernelOut
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact Cert.KernelIdeal.Model.run m g
  refine (θ_run Cert.ReferenceIdeal.defs _ _).mono (fun r h c => ⟨(h c).1.trans ?_, (h c).2⟩) (Cert.ReferenceIdeal.Model.run m' g')
  obtain ⟨h0, h1, h2⟩ := hargs c
  refine Eq.trans ?_ (Cert.Equal.results _ _ _ (hpre c)).symm
  exact congr (congrArg₂ Cert.ReferenceIdeal.Model.total h0 h1) h2

theorem claim : Cert.Claim :=
  ⟨Cert.Kernel.Gen.facts, Cert.KernelIdeal.Gen.facts, Cert.ReferenceIdeal.Gen.facts, Cert.Pre_phase_type.Gen.facts,
    fun m g _ => Cert.Kernel.Gen.frame m g, fun m g _ => Cert.KernelIdeal.Gen.frame m g, fun m g _ => Cert.KernelIdeal.Gen.frame m g,
    fun m g _ => frame_reference m g, fun m g _ => frame_reference m g, preserves, algebraic⟩

end Cert.Proof

end
